-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_ret_finite [hPre_ret_finite : Cert.Pre_ret_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ret_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ret_finite [hPre_ret_finite : Cert.Pre_ret_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ret_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_ret_finite [hKernel3Ideal : Cert.Kernel3Ideal.Facts] [hPre_ret_finite : Cert.Pre_ret_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_ret_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_ret_finite [hReference3Ideal : Cert.Reference3Ideal.Facts] [hPre_ret_finite : Cert.Pre_ret_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ret_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v18_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v63)) (v1 : (c : Dev Cert.Kernel2Ideal.nD) → Buf (Elt Ideal) ((c.tc : Thread Cert.Kernel2Ideal.nD Cert.Kernel2Ideal.τ).loc Cert.Kernel2Ideal.main_v65)) (v2 : (c : Dev Cert.Kernel2Ideal.nD) → Buf (Elt Ideal) ((c.tc : Thread Cert.Kernel2Ideal.nD Cert.Kernel2Ideal.τ).loc Cert.Kernel2Ideal.main_v61_3)) (v3 : (c : Dev Cert.Kernel2Ideal.nD) → Buf (Elt Ideal) ((c.tc : Thread Cert.Kernel2Ideal.nD Cert.Kernel2Ideal.τ).loc Cert.Kernel2Ideal.main_v61_4)) (v4 : (c : Dev Cert.Kernel2Ideal.nD) → Buf (Elt Ideal) ((c.tc : Thread Cert.Kernel2Ideal.nD Cert.Kernel2Ideal.τ).loc Cert.Kernel2Ideal.main_v61_0)) (v5 : (c : Dev Cert.Kernel2Ideal.nD) → Buf (Elt Ideal) ((c.tc : Thread Cert.Kernel2Ideal.nD Cert.Kernel2Ideal.τ).loc Cert.Kernel2Ideal.main_v61_5)) (v6 : (c : Dev Cert.Kernel2Ideal.nD) → Buf (Elt Ideal) ((c.tc : Thread Cert.Kernel2Ideal.nD Cert.Kernel2Ideal.τ).loc Cert.Kernel2Ideal.main_v61_10)) (v7 : (c : Dev Cert.Kernel2Ideal.nD) → Buf (Elt Ideal) ((c.tc : Thread Cert.Kernel2Ideal.nD Cert.Kernel2Ideal.τ).loc Cert.Kernel2Ideal.main_v61_11)) (v8 : (c : Dev Cert.Kernel2Ideal.nD) → Buf (Elt Ideal) ((c.tc : Thread Cert.Kernel2Ideal.nD Cert.Kernel2Ideal.τ).loc Cert.Kernel2Ideal.main_v61_12)) (v9 : (c : Dev Cert.Kernel2Ideal.nD) → Buf (Elt Ideal) ((c.tc : Thread Cert.Kernel2Ideal.nD Cert.Kernel2Ideal.τ).loc Cert.Kernel2Ideal.main_v61_13)) (v10 : (c : Dev Cert.Kernel2Ideal.nD) → Buf (Elt Ideal) ((c.tc : Thread Cert.Kernel2Ideal.nD Cert.Kernel2Ideal.τ).loc Cert.Kernel2Ideal.main_v61_14)) (v11 : (c : Dev Cert.Kernel2Ideal.nD) → Buf (Elt Ideal) ((c.tc : Thread Cert.Kernel2Ideal.nD Cert.Kernel2Ideal.τ).loc Cert.Kernel2Ideal.main_v61_15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v63) = v0 c
          ∧ r.2.mem ((c.tc : Thread Cert.Kernel2Ideal.nD Cert.Kernel2Ideal.τ).loc Cert.Kernel2Ideal.main_v65) = v1 c
          ∧ r.2.mem ((c.tc : Thread Cert.Kernel2Ideal.nD Cert.Kernel2Ideal.τ).loc Cert.Kernel2Ideal.main_v61_3) = v2 c
          ∧ r.2.mem ((c.tc : Thread Cert.Kernel2Ideal.nD Cert.Kernel2Ideal.τ).loc Cert.Kernel2Ideal.main_v61_4) = v3 c
          ∧ r.2.mem ((c.tc : Thread Cert.Kernel2Ideal.nD Cert.Kernel2Ideal.τ).loc Cert.Kernel2Ideal.main_v61_0) = v4 c
          ∧ r.2.mem ((c.tc : Thread Cert.Kernel2Ideal.nD Cert.Kernel2Ideal.τ).loc Cert.Kernel2Ideal.main_v61_5) = v5 c
          ∧ r.2.mem ((c.tc : Thread Cert.Kernel2Ideal.nD Cert.Kernel2Ideal.τ).loc Cert.Kernel2Ideal.main_v61_10) = v6 c
          ∧ r.2.mem ((c.tc : Thread Cert.Kernel2Ideal.nD Cert.Kernel2Ideal.τ).loc Cert.Kernel2Ideal.main_v61_11) = v7 c
          ∧ r.2.mem ((c.tc : Thread Cert.Kernel2Ideal.nD Cert.Kernel2Ideal.τ).loc Cert.Kernel2Ideal.main_v61_12) = v8 c
          ∧ r.2.mem ((c.tc : Thread Cert.Kernel2Ideal.nD Cert.Kernel2Ideal.τ).loc Cert.Kernel2Ideal.main_v61_13) = v9 c
          ∧ r.2.mem ((c.tc : Thread Cert.Kernel2Ideal.nD Cert.Kernel2Ideal.τ).loc Cert.Kernel2Ideal.main_v61_14) = v10 c
          ∧ r.2.mem ((c.tc : Thread Cert.Kernel2Ideal.nD Cert.Kernel2Ideal.τ).loc Cert.Kernel2Ideal.main_v61_15) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v98) = v0 c
          ∧ r.2.mem ((c.tc : Thread Cert.Reference2Ideal.nD Cert.Reference2Ideal.τ).loc Cert.Reference2Ideal.main_v99) = v1 c
          ∧ r.2.mem ((c.tc : Thread Cert.Reference2Ideal.nD Cert.Reference2Ideal.τ).loc Cert.Reference2Ideal.main_v100) = v2 c
          ∧ r.2.mem ((c.tc : Thread Cert.Reference2Ideal.nD Cert.Reference2Ideal.τ).loc Cert.Reference2Ideal.main_v103) = v3 c
          ∧ r.2.mem ((c.tc : Thread Cert.Reference2Ideal.nD Cert.Reference2Ideal.τ).loc Cert.Reference2Ideal.main_v106) = v4 c
          ∧ r.2.mem ((c.tc : Thread Cert.Reference2Ideal.nD Cert.Reference2Ideal.τ).loc Cert.Reference2Ideal.main_v108) = v5 c
          ∧ r.2.mem ((c.tc : Thread Cert.Reference2Ideal.nD Cert.Reference2Ideal.τ).loc Cert.Reference2Ideal.main_v112) = v6 c
          ∧ r.2.mem ((c.tc : Thread Cert.Reference2Ideal.nD Cert.Reference2Ideal.τ).loc Cert.Reference2Ideal.main_v116) = v7 c
          ∧ r.2.mem ((c.tc : Thread Cert.Reference2Ideal.nD Cert.Reference2Ideal.τ).loc Cert.Reference2Ideal.main_v117) = v8 c
          ∧ r.2.mem ((c.tc : Thread Cert.Reference2Ideal.nD Cert.Reference2Ideal.τ).loc Cert.Reference2Ideal.main_v119) = v9 c
          ∧ r.2.mem ((c.tc : Thread Cert.Reference2Ideal.nD Cert.Reference2Ideal.τ).loc Cert.Reference2Ideal.main_v126) = v10 c
          ∧ r.2.mem ((c.tc : Thread Cert.Reference2Ideal.nD Cert.Reference2Ideal.τ).loc Cert.Reference2Ideal.main_v133) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_ret_finite [hKernel3Ideal : Cert.Kernel3Ideal.Facts] [hReference3Ideal : Cert.Reference3Ideal.Facts] [hPre_ret_finite : Cert.Pre_ret_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_ret_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_ret_finite : Cert.Pre_ret_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_ret_finite (hKernel3Ideal := hKernel3Ideal) (hPre_ret_finite := hPre_ret_finite)
    ∧ quiescent_Reference3Ideal (hReference3Ideal := hReference3Ideal)
    ∧ quiescent_Reference3Ideal_pre_ret_finite (hReference3Ideal := hReference3Ideal) (hPre_ret_finite := hPre_ret_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_ret_finite (hKernel3Ideal := hKernel3Ideal) (hReference3Ideal := hReference3Ideal) (hPre_ret_finite := hPre_ret_finite)
-- ==== Pre_ret_finite.lean ====
abbrev S2x8192x1024 : Shape := ⟨3, ![2, 8192, 1024]⟩
abbrev S2x1024 : Shape := ⟨2, ![2, 1024]⟩
abbrev S2x8192x512 : Shape := ⟨3, ![2, 8192, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel

variable [Facts]

def fn {F : FTy → Type} [FloatOps F] (main_arg0 : FVec F S2x8192x1024 .f32) (main_arg1 : FVec F S2x1024 .f32) (main_arg2 : FVec F S2x8192x512 .bf16) (main_arg3 : FVec F S2x8192x512 .bf16) (main_arg4 : FVec F S2x8192x512 .f32) (main_arg5 : FVec F S2x8192x512 .bf16) (main_arg6 : FVec F S2x8192x1024 .bf16) (main_arg7 : FVec F S2x8192x1024 .bf16) (main_arg8 : FVec F S512 .f32) (main_arg9 : FVec F S512x1024 .f32) (main_arg10 : FVec F S512x1024 .f32) (main_arg11 : FVec F S1024x1024 .f32) (main_arg12 : FVec F S1024 .f32) : IVec S_ 1 :=
  let main_v0 : FVec F S2x8192x512 .f32 := Host.absf main_arg4
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  main_v3
-- ==== Kernel.lean ====
abbrev S2x8192x512 : Shape := ⟨3, ![2, 8192, 512]⟩
abbrev S256x256 : Shape := ⟨2, ![256, 256]⟩
abbrev S4x1x256 : Shape := ⟨3, ![4, 1, 256]⟩
abbrev S256 : Shape := ⟨1, ![256]⟩
abbrev S1x1x256x1 : Shape := ⟨4, ![1, 1, 256, 1]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x1x128 : Shape := ⟨3, ![1, 1, 128]⟩
abbrev S1x8 : Shape := ⟨2, ![1, 8]⟩
abbrev S128x8 : Shape := ⟨2, ![128, 8]⟩
abbrev S1x8x64 : Shape := ⟨3, ![1, 8, 64]⟩
abbrev S1x512 : Shape := ⟨2, ![1, 512]⟩
abbrev S128x8x64 : Shape := ⟨3, ![128, 8, 64]⟩
abbrev S128x512 : Shape := ⟨2, ![128, 512]⟩
abbrev S2x2x256x256 : Shape := ⟨4, ![2, 2, 256, 256]⟩
abbrev S2x128x512 : Shape := ⟨3, ![2, 128, 512]⟩
abbrev S1x128x512 : Shape := ⟨3, ![1, 128, 512]⟩
abbrev S128x256 : Shape := ⟨2, ![128, 256]⟩
abbrev S1x1x256x256 : Shape := ⟨4, ![1, 1, 256, 256]⟩
abbrev S1x1x256 : Shape := ⟨3, ![1, 1, 256]⟩
abbrev S1x256 : Shape := ⟨2, ![1, 256]⟩
abbrev S2x2x256x64 : Shape := ⟨4, ![2, 2, 256, 64]⟩
abbrev S2x2x2x4x32x64 : Shape := ⟨6, ![2, 2, 2, 4, 32, 64]⟩
abbrev S2x2x4x2x32x64 : Shape := ⟨6, ![2, 2, 4, 2, 32, 64]⟩
abbrev S2x8x64x64 : Shape := ⟨4, ![2, 8, 64, 64]⟩

abbrev nBuf : Space → Nat
  | .hbm => 128
  | .vmem => 17
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S256x256, .f32⟩
  | .hbm, ⟨4, _⟩ => ⟨S4x1x256, .bf16⟩
  | .hbm, ⟨5, _⟩ => ⟨S256, .i1⟩
  | .hbm, ⟨6, _⟩ => ⟨S1x1x256x1, .i1⟩
  | .hbm, ⟨7, _⟩ => ⟨S256, .i1⟩
  | .hbm, ⟨8, _⟩ => ⟨S1x1x256x1, .i1⟩
  | .hbm, ⟨9, _⟩ => ⟨S256, .i1⟩
  | .hbm, ⟨10, _⟩ => ⟨S1x1x256x1, .i1⟩
  | .hbm, ⟨11, _⟩ => ⟨S256, .i1⟩
  | .hbm, ⟨12, _⟩ => ⟨S1x1x256x1, .i1⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S128, .f32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S128x1, .f32⟩
  | .hbm, ⟨29, _⟩ => ⟨S1x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128x128, .f32⟩
  | .hbm, ⟨35, _⟩ => ⟨S128x128, .i1⟩
  | .hbm, ⟨36, _⟩ => ⟨S8x1x1, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S1x128x128, .f32⟩
  | .hbm, ⟨41, _⟩ => ⟨S8x128x128, .f32⟩
  | .hbm, ⟨42, _⟩ => ⟨S8x128x128, .f32⟩
  | .hbm, ⟨43, _⟩ => ⟨S8x128x128, .f32⟩
  | .hbm, ⟨44, _⟩ => ⟨S8x128x128, .f32⟩
  | .hbm, ⟨45, _⟩ => ⟨S_, .f32⟩
  | .hbm, ⟨46, _⟩ => ⟨S_, .f32⟩
  | .hbm, ⟨47, _⟩ => ⟨S8x128x128, .i1⟩
  | .hbm, ⟨48, _⟩ => ⟨S8x128x128, .f32⟩
  | .hbm, ⟨49, _⟩ => ⟨S8x128x128, .f32⟩
  | .hbm, ⟨50, _⟩ => ⟨S1x1x128, .i1⟩
  | .hbm, ⟨51, _⟩ => ⟨S_, .f32⟩
  | .hbm, ⟨52, _⟩ => ⟨S_, .f32⟩
  | .hbm, ⟨53, _⟩ => ⟨S8x128x128, .i1⟩
  | .hbm, ⟨54, _⟩ => ⟨S8x128x128, .f32⟩
  | .hbm, ⟨55, _⟩ => ⟨S8x128x128, .f32⟩
  | .hbm, ⟨56, _⟩ => ⟨S1x8, .f32⟩
  | .hbm, ⟨57, _⟩ => ⟨S128x1, .f32⟩
  | .hbm, ⟨58, _⟩ => ⟨S_, .f32⟩
  | .hbm, ⟨59, _⟩ => ⟨S128x1, .f32⟩
  | .hbm, ⟨60, _⟩ => ⟨S128x1, .f32⟩
  | .hbm, ⟨61, _⟩ => ⟨S128x8, .f32⟩
  | .hbm, ⟨62, _⟩ => ⟨S128x8, .f32⟩
  | .hbm, ⟨63, _⟩ => ⟨S128x8, .f32⟩
  | .hbm, ⟨64, _⟩ => ⟨S128x8, .f32⟩
  | .hbm, ⟨65, _⟩ => ⟨S128x1, .i1⟩
  | .hbm, ⟨66, _⟩ => ⟨S1x8, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128x1, .f32⟩
  | .hbm, ⟨71, _⟩ => ⟨S128x8, .f32⟩
  | .hbm, ⟨72, _⟩ => ⟨S128x8, .f32⟩
  | .hbm, ⟨73, _⟩ => ⟨S128x8, .f32⟩
  | .hbm, ⟨74, _⟩ => ⟨S128x8, .f32⟩
  | .hbm, ⟨75, _⟩ => ⟨S_, .f32⟩
  | .hbm, ⟨76, _⟩ => ⟨S_, .f32⟩
  | .hbm, ⟨77, _⟩ => ⟨S128x8, .i1⟩
  | .hbm, ⟨78, _⟩ => ⟨S128x8, .f32⟩
  | .hbm, ⟨79, _⟩ => ⟨S128x8, .f32⟩
  | .hbm, ⟨80, _⟩ => ⟨S_, .f32⟩
  | .hbm, ⟨81, _⟩ => ⟨S8, .f32⟩
  | .hbm, ⟨82, _⟩ => ⟨S8, .f32⟩
  | .hbm, ⟨83, _⟩ => ⟨S8, .f32⟩
  | .hbm, ⟨84, _⟩ => ⟨S1x8, .f32⟩
  | .hbm, ⟨85, _⟩ => ⟨S1x8x64, .f32⟩
  | .hbm, ⟨86, _⟩ => ⟨S1x512, .f32⟩
  | .hbm, ⟨87, _⟩ => ⟨S128x8x64, .f32⟩
  | .hbm, ⟨88, _⟩ => ⟨S128x512, .f32⟩
  | .hbm, ⟨89, _⟩ => ⟨S128x8x64, .f32⟩
  | .hbm, ⟨90, _⟩ => ⟨S128x512, .f32⟩
  | .hbm, ⟨91, _⟩ => ⟨S_, .f32⟩
  | .hbm, ⟨92, _⟩ => ⟨S2x2x256x256, .f32⟩
  | .hbm, ⟨93, _⟩ => ⟨S2x8192x512, .f32⟩
  | .hbm, ⟨94, _⟩ => ⟨S2x2x256x256, .f32⟩
  | .hbm, ⟨95, _⟩ => ⟨S2x2x256x64, .f32⟩
  | .hbm, ⟨96, _⟩ => ⟨S_, .f32⟩
  | .hbm, ⟨97, _⟩ => ⟨S_, .f32⟩
  | .hbm, ⟨98, _⟩ => ⟨S2x2x256x64, .i1⟩
  | .hbm, ⟨99, _⟩ => ⟨S2x2x256x64, .f32⟩
  | .hbm, ⟨100, _⟩ => ⟨S2x2x256x64, .f32⟩
  | .hbm, ⟨101, _⟩ => ⟨S_, .f32⟩
  | .hbm, ⟨102, _⟩ => ⟨S2x2x256x64, .f32⟩
  | .hbm, ⟨103, _⟩ => ⟨S2x2x256x64, .f32⟩
  | .hbm, ⟨104, _⟩ => ⟨S2x2x256x64, .f32⟩
  | .hbm, ⟨105, _⟩ => ⟨S_, .f32⟩
  | .hbm, ⟨106, _⟩ => ⟨S_, .f32⟩
  | .hbm, ⟨107, _⟩ => ⟨S2x2x256x64, .i1⟩
  | .hbm, ⟨108, _⟩ => ⟨S2x2x256x64, .f32⟩
  | .hbm, ⟨109, _⟩ => ⟨S2x2x256x64, .f32⟩
  | .hbm, ⟨110, _⟩ => ⟨S2x2x256x64, .f32⟩
  | .hbm, ⟨111, _⟩ => ⟨S2x2x256x64, .f32⟩
  | .hbm, ⟨112, _⟩ => ⟨S_, .f32⟩
  | .hbm, ⟨113, _⟩ => ⟨S_, .f32⟩
  | .hbm, ⟨114, _⟩ => ⟨S2x2x256x64, .i1⟩
  | .hbm, ⟨115, _⟩ => ⟨S2x2x256x64, .f32⟩
  | .hbm, ⟨116, _⟩ => ⟨S2x2x256x64, .f32⟩
  | .hbm, ⟨117, _⟩ => ⟨S2x2x256x64, .f32⟩
  | .hbm, ⟨118, _⟩ => ⟨S2x2x256x64, .f32⟩
  | .hbm, ⟨119, _⟩ => ⟨S_, .f32⟩
  | .hbm, ⟨120, _⟩ => ⟨S_, .f32⟩
  | .hbm, ⟨121, _⟩ => ⟨S2x2x256x64, .i1⟩
  | .hbm, ⟨122, _⟩ => ⟨S2x2x256x64, .f32⟩
  | .hbm, ⟨123, _⟩ => ⟨S2x2x256x64, .f32⟩
  | .hbm, ⟨124, _⟩ => ⟨S2x2x256x64, .f32⟩
  | .hbm, ⟨125, _⟩ => ⟨S2x2x2x4x32x64, .f32⟩
  | .hbm, ⟨126, _⟩ => ⟨S2x2x4x2x32x64, .f32⟩
  | .hbm, ⟨127, _⟩ => ⟨S2x8x64x64, .f32⟩
  | .local _ .vmem, ⟨0, _⟩ => ⟨S2x128x512, .bf16⟩
  | .local _ .vmem, ⟨1, _⟩ => ⟨S2x128x512, .bf16⟩
  | .local _ .vmem, ⟨2, _⟩ => ⟨S2x128x512, .bf16⟩
  | .local _ .vmem, ⟨3, _⟩ => ⟨S2x128x512, .bf16⟩
  | .local _ .vmem, ⟨4, _⟩ => ⟨S2x128x512, .bf16⟩
  | .local _ .vmem, ⟨5, _⟩ => ⟨S2x128x512, .bf16⟩
  | .local _ .vmem, ⟨6, _⟩ => ⟨S2x2x256x256, .f32⟩
  | .local _ .vmem, ⟨7, _⟩ => ⟨S8x128x128, .f32⟩
  | .local _ .vmem, ⟨8, _⟩ => ⟨S128x512, .f32⟩
  | .local _ .vmem, ⟨9, _⟩ => ⟨S128x512, .f32⟩
  | .local _ .vmem, ⟨10, _⟩ => ⟨S1x512, .f32⟩
  | .local _ .vmem, ⟨11, _⟩ => ⟨S256x256, .f32⟩
  | .local _ .vmem, ⟨12, _⟩ => ⟨S4x1x256, .bf16⟩
  | .local _ .vmem, ⟨13, _⟩ => ⟨S2x128x512, .f32⟩
  | .local _ .vmem, ⟨14, _⟩ => ⟨S2x128x512, .f32⟩
  | .local _ .vmem, ⟨15, _⟩ => ⟨S2x2x256x256, .f32⟩
  | .local _ .vmem, ⟨16, _⟩ => ⟨S2x2x256x256, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_c : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_c_2 : Ref sig .tc := ⟨.hbm, 9, rfl⟩
abbrev main_v2 : Ref sig .tc := ⟨.hbm, 10, rfl⟩
abbrev main_c_3 : Ref sig .tc := ⟨.hbm, 11, rfl⟩
abbrev main_v3 : Ref sig .tc := ⟨.hbm, 12, rfl⟩
abbrev main_v4 : Ref sig .tc := ⟨.hbm, 13, rfl⟩
abbrev main_cst_4 : Ref sig .tc := ⟨.hbm, 14, rfl⟩
abbrev main_v5 : Ref sig .tc := ⟨.hbm, 15, rfl⟩
abbrev main_v6 : Ref sig .tc := ⟨.hbm, 16, rfl⟩
abbrev main_cst_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_13 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63_0 : Ref sig .tc := ⟨.hbm, 93, rfl⟩
abbrev main_v63_1 : Ref sig .tc := ⟨.hbm, 94, rfl⟩
abbrev main_v64 : Ref sig .tc := ⟨.hbm, 95, rfl⟩
abbrev main_cst_16 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_18 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_19 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_20 : Ref sig .tc := ⟨.hbm, 119, rfl⟩
abbrev main_call6_v0 : Ref sig .tc := ⟨.hbm, 120, rfl⟩
abbrev main_call6_v1 : Ref sig .tc := ⟨.hbm, 121, rfl⟩
abbrev main_call6_v2 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨2, ![1, 64], ![false, false]⟩

def k0_cond2 (i : grid0.Coords) : BitVec 1 :=
  let arg1 : BitVec 32 := BitVec.ofNat 32 (i 1).val
  let c63_i32 : BitVec 32 := 63#32
  let v342 : BitVec 1 := Scalar.cmpi .eq arg1 c63_i32
  let v343 : BitVec 32 := Scalar.extui v342
  let c0_i32_234 : BitVec 32 := 0#32
  let v344 : BitVec 1 := Scalar.cmpi .ne v343 c0_i32_234
  v344

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2x2x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== ReferenceIdeal.lean ====
abbrev S2x8192x512 : Shape := ⟨3, ![2, 8192, 512]⟩
abbrev S2x8192x2x2x4x32 : Shape := ⟨6, ![2, 8192, 2, 2, 4, 32]⟩
abbrev S2x8192x2x4x2x32 : Shape := ⟨6, ![2, 8192, 2, 4, 2, 32]⟩
abbrev S2x8192x8x64 : Shape := ⟨4, ![2, 8192, 8, 64]⟩
abbrev S_ : Shape := ⟨0, ![]⟩
abbrev S2x8x64x64 : Shape := ⟨4, ![2, 8, 64, 64]⟩
abbrev S2x64x128x8x64 : Shape := ⟨5, ![2, 64, 128, 8, 64]⟩
abbrev S64x2x128x8x64 : Shape := ⟨5, ![64, 2, 128, 8, 64]⟩
abbrev S1x2x128x8x64 : Shape := ⟨5, ![1, 2, 128, 8, 64]⟩
abbrev S2x128x8x64 : Shape := ⟨4, ![2, 128, 8, 64]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S2x8x128x128 : Shape := ⟨4, ![2, 8, 128, 128]⟩
abbrev S1x8x128x128 : Shape := ⟨4, ![1, 8, 128, 128]⟩
abbrev S2x8x64x128 : Shape := ⟨4, ![2, 8, 64, 128]⟩
abbrev S1x8 : Shape := ⟨2, ![1, 8]⟩
abbrev S128x8 : Shape := ⟨2, ![128, 8]⟩
abbrev S1x128x8x1 : Shape := ⟨4, ![1, 128, 8, 1]⟩
abbrev S1x8x1x1 : Shape := ⟨4, ![1, 8, 1, 1]⟩

abbrev nBuf : Space → Nat
  | .hbm => 135
  | .vmem => 0
  | .smem => 0
  | _ => 0

abbrev hbmTy0_0 (i : Nat) : BufTy := match i % 128 with
  | 0 => ⟨S2x8192x512, .bf16⟩
  | 1 => ⟨S2x8192x512, .bf16⟩
  | 2 => ⟨S2x8192x512, .bf16⟩
  | 3 => ⟨S2x8192x512, .f32⟩
  | 4 => ⟨S2x8192x2x2x4x32, .f32⟩
  | 5 => ⟨S2x8192x2x4x2x32, .f32⟩
  | 6 => ⟨S2x8192x8x64, .f32⟩
  | 7 => ⟨S2x8192x512, .f32⟩
  | 8 => ⟨S2x8192x2x2x4x32, .f32⟩
  | 9 => ⟨S2x8192x2x4x2x32, .f32⟩
  | 10 => ⟨S2x8192x8x64, .f32⟩
  | 11 => ⟨S2x8192x512, .f32⟩
  | 12 => ⟨S2x8192x8x64, .f32⟩
  | 13 => ⟨S_, .f32⟩
  | 14 => ⟨S2x8x64x64, .f32⟩
  | 15 => ⟨S2x64x128x8x64, .f32⟩
  | 16 => ⟨S64x2x128x8x64, .f32⟩
  | 17 => ⟨S2x64x128x8x64, .f32⟩
  | 18 => ⟨S64x2x128x8x64, .f32⟩
  | 19 => ⟨S2x64x128x8x64, .f32⟩
  | 20 => ⟨S64x2x128x8x64, .f32⟩
  | 21 => ⟨S_, .f32⟩
  | 22 => ⟨S64x2x128x8x64, .f32⟩
  | 23 => ⟨S_, .i32⟩
  | 24 => ⟨S64x2x128x8x64, .f32⟩
  | 25 => ⟨S64x2x128x8x64, .f32⟩
  | 26 => ⟨S64x2x128x8x64, .f32⟩
  | 27 => ⟨S_, .i32⟩
  | 28 => ⟨S2x8x64x64, .f32⟩
  | 29 => ⟨S64x2x128x8x64, .f32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S1x2x128x8x64, .f32⟩
  | 37 => ⟨S2x128x8x64, .f32⟩
  | 38 => ⟨S_, .i32⟩
  | 39 => ⟨S_, .i32⟩
  | 40 => ⟨S_, .i32⟩
  | 41 => ⟨S_, .i32⟩
  | 42 => ⟨S1x2x128x8x64, .f32⟩
  | 43 => ⟨S2x128x8x64, .f32⟩
  | 44 => ⟨S_, .i32⟩
  | 45 => ⟨S_, .i32⟩
  | 46 => ⟨S_, .i32⟩
  | 47 => ⟨S_, .i32⟩
  | 48 => ⟨S1x2x128x8x64, .f32⟩
  | 49 => ⟨S2x128x8x64, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S8, .f32⟩
  | 59 => ⟨S8, .f32⟩
  | 60 => ⟨S128, .f32⟩
  | 61 => ⟨S128x1, .f32⟩
  | 62 => ⟨S1x128, .f32⟩
  | 63 => ⟨S128x128, .f32⟩
  | 64 => ⟨S128x128, .f32⟩
  | 65 => ⟨S128x128, .f32⟩
  | 66 => ⟨S_, .f32⟩
  | 67 => ⟨S128x128, .f32⟩
  | 68 => ⟨S128x128, .i1⟩
  | 69 => ⟨S8x1x1, .f32⟩
  | 70 => ⟨S_, .f32⟩
  | 71 => ⟨S128x128, .f32⟩
  | 72 => ⟨S128x128, .f32⟩
  | 73 => ⟨S1x128x128, .f32⟩
  | 74 => ⟨S8x128x128, .f32⟩
  | 75 => ⟨S8x128x128, .f32⟩
  | 76 => ⟨S8x128x128, .f32⟩
  | 77 => ⟨S8x128x128, .f32⟩
  | 78 => ⟨S_, .f32⟩
  | 79 => ⟨S_, .f32⟩
  | 80 => ⟨S8x128x128, .i1⟩
  | 81 => ⟨S8x128x128, .f32⟩
  | 82 => ⟨S8x128x128, .f32⟩
  | 83 => ⟨S2x8x128x128, .f32⟩
  | 84 => ⟨S1x8x128x128, .f32⟩
  | 85 => ⟨S2x8x128x128, .f32⟩
  | 86 => ⟨S2x8x128x128, .f32⟩
  | 87 => ⟨S2x8x64x128, .f32⟩
  | 88 => ⟨S2x128x8x64, .f32⟩
  | 89 => ⟨S1x8, .f32⟩
  | 90 => ⟨S128x1, .f32⟩
  | 91 => ⟨S_, .f32⟩
  | 92 => ⟨S128x1, .f32⟩
  | 93 => ⟨S128x1, .f32⟩
  | 94 => ⟨S128x8, .f32⟩
  | 95 => ⟨S128x8, .f32⟩
  | 96 => ⟨S128x8, .f32⟩
  | 97 => ⟨S128x8, .f32⟩
  | 98 => ⟨S2x8x64x128, .f32⟩
  | 99 => ⟨S2x128x8x64, .f32⟩
  | 100 => ⟨S1x128x8x1, .f32⟩
  | 101 => ⟨S2x128x8x64, .f32⟩
  | 102 => ⟨S2x128x8x64, .f32⟩
  | 103 => ⟨S2x128x8x64, .f32⟩
  | 104 => ⟨S1x8, .f32⟩
  | 105 => ⟨S_, .f32⟩
  | 106 => ⟨S128, .f32⟩
  | 107 => ⟨S128, .f32⟩
  | 108 => ⟨S128x1, .f32⟩
  | 109 => ⟨S128x8, .f32⟩
  | 110 => ⟨S128x8, .f32⟩
  | 111 => ⟨S128x8, .f32⟩
  | 112 => ⟨S128x8, .f32⟩
  | 113 => ⟨S_, .f32⟩
  | 114 => ⟨S8, .f32⟩
  | 115 => ⟨S8, .f32⟩
  | 116 => ⟨S8, .f32⟩
  | 117 => ⟨S1x8x1x1, .f32⟩
  | 118 => ⟨S2x8x64x64, .f32⟩
  | 119 => ⟨S2x8x64x64, .f32⟩
  | 120 => ⟨S1x128x8x1, .f32⟩
  | 121 => ⟨S2x128x8x64, .f32⟩
  | 122 => ⟨S2x128x8x64, .f32⟩
  | 123 => ⟨S2x8x64x64, .f32⟩
  | 124 => ⟨S2x8x64x64, .f32⟩
  | 125 => ⟨S1x2x128x8x64, .f32⟩
  | 126 => ⟨S_, .i32⟩
  | 127 => ⟨S_, .i32⟩
  | _ => ⟨S2x8192x512, .bf16⟩

abbrev hbmTy0_1 (i : Nat) : BufTy := match i % 128 with
  | 0 => ⟨S_, .i32⟩
  | 1 => ⟨S_, .i32⟩
  | 2 => ⟨S64x2x128x8x64, .f32⟩
  | 3 => ⟨S_, .i32⟩
  | 4 => ⟨S_, .i32⟩
  | 5 => ⟨S2x64x128x8x64, .f32⟩
  | 6 => ⟨S2x8192x512, .f32⟩
  | _ => ⟨S2x8192x512, .bf16⟩

abbrev hbmTy (i : Nat) : BufTy := match i / 128 with
  | 0 => hbmTy0_0 i
  | 1 => hbmTy0_1 i
  | _ => ⟨S2x8192x512, .bf16⟩

abbrev bufTy : (tb : Table) → Fin (tcTables nBuf tb) → BufTy
  | .hbm, ⟨i, _⟩ => hbmTy i
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_c : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev main_v18_5 : Ref sig .tc := ⟨.hbm, 29, rfl⟩
abbrev main_while0c_c_6 : Ref sig .tc := ⟨.hbm, 30, rfl⟩
abbrev main_while0c_v21 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_c_1 : Ref sig .tc := ⟨.hbm, 34, rfl⟩
abbrev main_while0b_call0_c_2 : Ref sig .tc := ⟨.hbm, 35, rfl⟩
abbrev main_while0b_call0_v0 : Ref sig .tc := ⟨.hbm, 36, rfl⟩
abbrev main_while0b_v21 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_c_2 : Ref sig .tc := ⟨.hbm, 41, rfl⟩
abbrev main_while0b_call1_v0 : Ref sig .tc := ⟨.hbm, 42, rfl⟩
abbrev main_while0b_v22 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_c_1 : Ref sig .tc := ⟨.hbm, 46, rfl⟩
abbrev main_while0b_call2_c_2 : Ref sig .tc := ⟨.hbm, 47, rfl⟩
abbrev main_while0b_call2_v0 : Ref sig .tc := ⟨.hbm, 48, rfl⟩
abbrev main_while0b_v23 : Ref sig .tc := ⟨.hbm, 49, rfl⟩
abbrev main_while0b_v24 : Ref sig .tc := ⟨.hbm, 50, rfl⟩
abbrev main_while0b_cst_6 : Ref sig .tc := ⟨.hbm, 51, rfl⟩
abbrev main_while0b_v25 : Ref sig .tc := ⟨.hbm, 52, rfl⟩
abbrev main_while0b_v26 : Ref sig .tc := ⟨.hbm, 53, rfl⟩
abbrev main_while0b_cst_7 : Ref sig .tc := ⟨.hbm, 54, rfl⟩
abbrev main_while0b_v27 : Ref sig .tc := ⟨.hbm, 55, rfl⟩
abbrev main_while0b_v28 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_cst_8 : Ref sig .tc := ⟨.hbm, 66, rfl⟩
abbrev main_while0b_v38 : Ref sig .tc := ⟨.hbm, 67, rfl⟩
abbrev main_while0b_v39 : Ref sig .tc := ⟨.hbm, 68, rfl⟩
abbrev main_while0b_v40 : Ref sig .tc := ⟨.hbm, 69, rfl⟩
abbrev main_while0b_cst_9 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_cst_10 : Ref sig .tc := ⟨.hbm, 78, rfl⟩
abbrev main_while0b_call3_v0 : Ref sig .tc := ⟨.hbm, 79, rfl⟩
abbrev main_while0b_call3_v1 : Ref sig .tc := ⟨.hbm, 80, rfl⟩
abbrev main_while0b_call3_v2 : Ref sig .tc := ⟨.hbm, 81, rfl⟩
abbrev main_while0b_v48 : Ref sig .tc := ⟨.hbm, 82, rfl⟩
abbrev main_while0b_v49 : Ref sig .tc := ⟨.hbm, 83, rfl⟩
abbrev main_while0b_v50 : Ref sig .tc := ⟨.hbm, 84, rfl⟩
abbrev main_while0b_v51 : Ref sig .tc := ⟨.hbm, 85, rfl⟩
abbrev main_while0b_v52 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_cst_11 : Ref sig .tc := ⟨.hbm, 91, rfl⟩
abbrev main_while0b_v57 : Ref sig .tc := ⟨.hbm, 92, rfl⟩
abbrev main_while0b_v58 : Ref sig .tc := ⟨.hbm, 93, rfl⟩
abbrev main_while0b_v59 : Ref sig .tc := ⟨.hbm, 94, rfl⟩
abbrev main_while0b_v60 : Ref sig .tc := ⟨.hbm, 95, rfl⟩
abbrev main_while0b_v61 : Ref sig .tc := ⟨.hbm, 96, rfl⟩
abbrev main_while0b_v62 : Ref sig .tc := ⟨.hbm, 97, rfl⟩
abbrev main_while0b_v63 : Ref sig .tc := ⟨.hbm, 98, rfl⟩
abbrev main_while0b_v64 : Ref sig .tc := ⟨.hbm, 99, rfl⟩
abbrev main_while0b_v65 : Ref sig .tc := ⟨.hbm, 100, rfl⟩
abbrev main_while0b_v66 : Ref sig .tc := ⟨.hbm, 101, rfl⟩
abbrev main_while0b_v67 : Ref sig .tc := ⟨.hbm, 102, rfl⟩
abbrev main_while0b_v68 : Ref sig .tc := ⟨.hbm, 103, rfl⟩
abbrev main_while0b_v69 : Ref sig .tc := ⟨.hbm, 104, rfl⟩
abbrev main_while0b_cst_12 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_v76 : Ref sig .tc := ⟨.hbm, 112, rfl⟩
abbrev main_while0b_cst_13 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_c_1 : Ref sig .tc := ⟨.hbm, 128, rfl⟩
abbrev main_while0b_call4_c_2 : Ref sig .tc := ⟨.hbm, 129, rfl⟩
abbrev main_while0b_v88 : Ref sig .tc := ⟨.hbm, 130, rfl⟩
abbrev main_while0b_c_14 : Ref sig .tc := ⟨.hbm, 131, rfl⟩
abbrev main_while0b_v89 : Ref sig .tc := ⟨.hbm, 132, rfl⟩
abbrev main_v19 : Ref sig .tc := ⟨.hbm, 133, rfl⟩
abbrev main_v20 : Ref sig .tc := ⟨.hbm, 134, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x8192x1024 : Shape := ⟨3, ![2, 8192, 1024]⟩
abbrev S2x1024 : Shape := ⟨2, ![2, 1024]⟩
abbrev S1024 : Shape := ⟨1, ![1024]⟩
abbrev S1024x6468 : Shape := ⟨2, ![1024, 6468]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S6468x1024 : Shape := ⟨2, ![6468, 1024]⟩
abbrev S512x1024 : Shape := ⟨2, ![512, 1024]⟩
abbrev S2x4x2x32x1024 : Shape := ⟨5, ![2, 4, 2, 32, 1024]⟩
abbrev S2x2x4x32x1024 : Shape := ⟨5, ![2, 2, 4, 32, 1024]⟩
abbrev S1024x1024 : Shape := ⟨2, ![1024, 1024]⟩
abbrev S6144x1024 : Shape := ⟨2, ![6144, 1024]⟩
abbrev S256x1024 : Shape := ⟨2, ![256, 1024]⟩
abbrev S4x1x64x1024 : Shape := ⟨4, ![4, 1, 64, 1024]⟩
abbrev S4x2x64x1024 : Shape := ⟨4, ![4, 2, 64, 1024]⟩
abbrev S64x1024 : Shape := ⟨2, ![64, 1024]⟩
abbrev S4x1024 : Shape := ⟨2, ![4, 1024]⟩
abbrev S124x1024 : Shape := ⟨2, ![124, 1024]⟩
abbrev S768x1024 : Shape := ⟨2, ![768, 1024]⟩
abbrev S2x1x1024 : Shape := ⟨3, ![2, 1, 1024]⟩
abbrev S1x1024 : Shape := ⟨2, ![1, 1024]⟩
abbrev S2x8192x512 : Shape := ⟨3, ![2, 8192, 512]⟩
abbrev S2x512x8192 : Shape := ⟨3, ![2, 512, 8192]⟩
abbrev S2x64x512x128 : Shape := ⟨4, ![2, 64, 512, 128]⟩
abbrev S2x8192x256 : Shape := ⟨3, ![2, 8192, 256]⟩
abbrev S2x64x8192 : Shape := ⟨3, ![2, 64, 8192]⟩
abbrev S2x32x8x256 : Shape := ⟨4, ![2, 32, 8, 256]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x4x512x128 : Shape := ⟨4, ![1, 4, 512, 128]⟩
abbrev S1x512x256 : Shape := ⟨3, ![1, 512, 256]⟩
abbrev S1x64x512 : Shape := ⟨3, ![1, 64, 512]⟩
abbrev S1x2x8x256 : Shape := ⟨4, ![1, 2, 8, 256]⟩
abbrev S512 : Shape := ⟨1, ![512]⟩
abbrev S512x1 : Shape := ⟨2, ![512, 1]⟩
abbrev S512x512 : Shape := ⟨2, ![512, 512]⟩
abbrev S1x1x512x128 : Shape := ⟨4, ![1, 1, 512, 128]⟩
abbrev S1x512x128 : Shape := ⟨3, ![1, 512, 128]⟩
abbrev S512x768 : Shape := ⟨2, ![512, 768]⟩
abbrev S128x512 : Shape := ⟨2, ![128, 512]⟩
abbrev S64x512 : Shape := ⟨2, ![64, 512]⟩
abbrev S8x512 : Shape := ⟨2, ![8, 512]⟩
abbrev S8x256 : Shape := ⟨2, ![8, 256]⟩
abbrev S1x1x8x256 : Shape := ⟨4, ![1, 1, 8, 256]⟩
abbrev S2x8x64x8192 : Shape := ⟨4, ![2, 8, 64, 8192]⟩
abbrev S2x8192x8x64 : Shape := ⟨4, ![2, 8192, 8, 64]⟩

abbrev nBuf : Space → Nat
  | .hbm => 92
  | .vmem => 46
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x6468, .f32⟩
  | .hbm, ⟨5, _⟩ => ⟨S8192, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x8192x1x32, .f32⟩
  | .hbm, ⟨22, _⟩ => ⟨S1x8192x4x32, .f32⟩
  | .hbm, ⟨23, _⟩ => ⟨S8192x128, .f32⟩
  | .hbm, ⟨24, _⟩ => ⟨S8192x32, .f32⟩
  | .hbm, ⟨25, _⟩ => ⟨S1x8192x1x32, .f32⟩
  | .hbm, ⟨26, _⟩ => ⟨S1x8192x4x32, .f32⟩
  | .hbm, ⟨27, _⟩ => ⟨S8192x128, .f32⟩
  | .hbm, ⟨28, _⟩ => ⟨S6468x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S2x4x2x32x1024, .f32⟩
  | .hbm, ⟨38, _⟩ => ⟨S2x2x4x32x1024, .f32⟩
  | .hbm, ⟨39, _⟩ => ⟨S512x1024, .f32⟩
  | .hbm, ⟨40, _⟩ => ⟨S512x1024, .f32⟩
  | .hbm, ⟨41, _⟩ => ⟨S2x4x2x32x1024, .f32⟩
  | .hbm, ⟨42, _⟩ => ⟨S2x2x4x32x1024, .f32⟩
  | .hbm, ⟨43, _⟩ => ⟨S512x1024, .f32⟩
  | .hbm, ⟨44, _⟩ => ⟨S_, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S512x1024, .f32⟩
  | .hbm, ⟨49, _⟩ => ⟨S1024x1024, .f32⟩
  | .hbm, ⟨50, _⟩ => ⟨S1024x1024, .f32⟩
  | .hbm, ⟨51, _⟩ => ⟨S6144x1024, .f32⟩
  | .hbm, ⟨52, _⟩ => ⟨S6144x1024, .bf16⟩
  | .hbm, ⟨53, _⟩ => ⟨S256x1024, .f32⟩
  | .hbm, ⟨54, _⟩ => ⟨S4x1x64x1024, .f32⟩
  | .hbm, ⟨55, _⟩ => ⟨S4x2x64x1024, .f32⟩
  | .hbm, ⟨56, _⟩ => ⟨S512x1024, .f32⟩
  | .hbm, ⟨57, _⟩ => ⟨S64x1024, .f32⟩
  | .hbm, ⟨58, _⟩ => ⟨S4x1024, .f32⟩
  | .hbm, ⟨59, _⟩ => ⟨S_, .f32⟩
  | .hbm, ⟨60, _⟩ => ⟨S4x1024, .f32⟩
  | .hbm, ⟨61, _⟩ => ⟨S4x1024, .f32⟩
  | .hbm, ⟨62, _⟩ => ⟨S_, .f32⟩
  | .hbm, ⟨63, _⟩ => ⟨S124x1024, .f32⟩
  | .hbm, ⟨64, _⟩ => ⟨S768x1024, .f32⟩
  | .hbm, ⟨65, _⟩ => ⟨S768x1024, .bf16⟩
  | .hbm, ⟨66, _⟩ => ⟨S768x1024, .f32⟩
  | .hbm, ⟨67, _⟩ => ⟨S768x1024, .f32⟩
  | .hbm, ⟨68, _⟩ => ⟨S768x1024, .bf16⟩
  | .hbm, ⟨69, _⟩ => ⟨S2x1x1024, .f32⟩
  | .hbm, ⟨70, _⟩ => ⟨S2x1x1024, .f32⟩
  | .hbm, ⟨71, _⟩ => ⟨S1x1024, .f32⟩
  | .hbm, ⟨72, _⟩ => ⟨S2x8192x512, .bf16⟩
  | .hbm, ⟨73, _⟩ => ⟨S2x512x8192, .f32⟩
  | .hbm, ⟨74, _⟩ => ⟨S2x512x8192, .f32⟩
  | .hbm, ⟨75, _⟩ => ⟨S2x8192x512, .bf16⟩
  | .hbm, ⟨76, _⟩ => ⟨S2x64x512x128, .bf16⟩
  | .hbm, ⟨77, _⟩ => ⟨S2x8192x512, .bf16⟩
  | .hbm, ⟨78, _⟩ => ⟨S2x8192x1024, .bf16⟩
  | .hbm, ⟨79, _⟩ => ⟨S2x8192x256, .bf16⟩
  | .hbm, ⟨80, _⟩ => ⟨S2x64x8192, .f32⟩
  | .hbm, ⟨81, _⟩ => ⟨S2x32x8x256, .f32⟩
  | .hbm, ⟨82, _⟩ => ⟨S2x8192x512, .bf16⟩
  | .hbm, ⟨83, _⟩ => ⟨S2x8192x512, .bf16⟩
  | .hbm, ⟨84, _⟩ => ⟨S2x8192x512, .bf16⟩
  | .hbm, ⟨85, _⟩ => ⟨S2x8192x512, .bf16⟩
  | .hbm, ⟨86, _⟩ => ⟨S2x8192x1024, .bf16⟩
  | .hbm, ⟨87, _⟩ => ⟨S2x8192x1024, .bf16⟩
  | .hbm, ⟨88, _⟩ => ⟨S2x8x64x8192, .f32⟩
  | .hbm, ⟨89, _⟩ => ⟨S2x8192x8x64, .f32⟩
  | .hbm, ⟨90, _⟩ => ⟨S2x8x64x8192, .f32⟩
  | .hbm, ⟨91, _⟩ => ⟨S2x8192x8x64, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S6144x1024, .bf16⟩
  | .local _ .vmem, ⟨12, _⟩ => ⟨S768x1024, .bf16⟩
  | .local _ .vmem, ⟨13, _⟩ => ⟨S768x1024, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .bf16⟩
  | .local _ .vmem, ⟨21, _⟩ => ⟨S1x512x512, .bf16⟩
  | .local _ .vmem, ⟨22, _⟩ => ⟨S1x4x512x128, .bf16⟩
  | .local _ .vmem, ⟨23, _⟩ => ⟨S1x4x512x128, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x256, .bf16⟩
  | .local _ .vmem, ⟨29, _⟩ => ⟨S1x512x256, .bf16⟩
  | .local _ .vmem, ⟨30, _⟩ => ⟨S1x64x512, .f32⟩
  | .local _ .vmem, ⟨31, _⟩ => ⟨S1x64x512, .f32⟩
  | .local _ .vmem, ⟨32, _⟩ => ⟨S1x2x8x256, .f32⟩
  | .local _ .vmem, ⟨33, _⟩ => ⟨S1x2x8x256, .f32⟩
  | .local _ .vmem, ⟨34, _⟩ => ⟨S1x512x512, .bf16⟩
  | .local _ .vmem, ⟨35, _⟩ => ⟨S1x512x512, .bf16⟩
  | .local _ .vmem, ⟨36, _⟩ => ⟨S1x512x512, .bf16⟩
  | .local _ .vmem, ⟨37, _⟩ => ⟨S1x512x512, .bf16⟩
  | .local _ .vmem, ⟨38, _⟩ => ⟨S1x512x512, .bf16⟩
  | .local _ .vmem, ⟨39, _⟩ => ⟨S1x512x512, .bf16⟩
  | .local _ .vmem, ⟨40, _⟩ => ⟨S1x512x512, .bf16⟩
  | .local _ .vmem, ⟨41, _⟩ => ⟨S1x512x512, .bf16⟩
  | .local _ .vmem, ⟨42, _⟩ => ⟨S1x512x1024, .bf16⟩
  | .local _ .vmem, ⟨43, _⟩ => ⟨S1x512x1024, .bf16⟩
  | .local _ .vmem, ⟨44, _⟩ => ⟨S1x512x1024, .bf16⟩
  | .local _ .vmem, ⟨45, _⟩ => ⟨S1x512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61_0 : Ref sig .tc := ⟨.hbm, 72, rfl⟩
abbrev main_v61_1 : Ref sig .tc := ⟨.hbm, 73, rfl⟩
abbrev main_v61_2 : Ref sig .tc := ⟨.hbm, 74, rfl⟩
abbrev main_v61_3 : Ref sig .tc := ⟨.hbm, 75, rfl⟩
abbrev main_v61_4 : Ref sig .tc := ⟨.hbm, 76, rfl⟩
abbrev main_v61_5 : Ref sig .tc := ⟨.hbm, 77, rfl⟩
abbrev main_v61_6 : Ref sig .tc := ⟨.hbm, 78, rfl⟩
abbrev main_v61_7 : Ref sig .tc := ⟨.hbm, 79, rfl⟩
abbrev main_v61_8 : Ref sig .tc := ⟨.hbm, 80, rfl⟩
abbrev main_v61_9 : Ref sig .tc := ⟨.hbm, 81, rfl⟩
abbrev main_v61_10 : Ref sig .tc := ⟨.hbm, 82, rfl⟩
abbrev main_v61_11 : Ref sig .tc := ⟨.hbm, 83, rfl⟩
abbrev main_v61_12 : Ref sig .tc := ⟨.hbm, 84, rfl⟩
abbrev main_v61_13 : Ref sig .tc := ⟨.hbm, 85, rfl⟩
abbrev main_v61_14 : Ref sig .tc := ⟨.hbm, 86, rfl⟩
abbrev main_v61_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S6144x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Reference2Ideal.lean ====
abbrev S2x8192x1024 : Shape := ⟨3, ![2, 8192, 1024]⟩
abbrev S2x1024 : Shape := ⟨2, ![2, 1024]⟩
abbrev S1024 : Shape := ⟨1, ![1024]⟩
abbrev S1024x6468 : Shape := ⟨2, ![1024, 6468]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x6468 : Shape := ⟨3, ![2, 8192, 6468]⟩
abbrev S2x8192x512 : Shape := ⟨3, ![2, 8192, 512]⟩
abbrev S2x8192x256 : Shape := ⟨3, ![2, 8192, 256]⟩
abbrev S2x8192x64 : Shape := ⟨3, ![2, 8192, 64]⟩
abbrev S2x8192x4 : Shape := ⟨3, ![2, 8192, 4]⟩
abbrev S8192 : Shape := ⟨1, ![8192]⟩
abbrev S2x8192x8x64 : Shape := ⟨4, ![2, 8192, 8, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x8x32 : Shape := ⟨4, ![2, 8192, 8, 32]⟩
abbrev S2x64x128x512 : Shape := ⟨4, ![2, 64, 128, 512]⟩
abbrev S2x64x512x128 : Shape := ⟨4, ![2, 64, 512, 128]⟩
abbrev S2x8192x2x4x2x32 : Shape := ⟨6, ![2, 8192, 2, 4, 2, 32]⟩
abbrev S2x8192x2x2x4x32 : Shape := ⟨6, ![2, 8192, 2, 2, 4, 32]⟩

abbrev nBuf : Space → Nat
  | .hbm => 169
  | .vmem => 0
  | .smem => 0
  | _ => 0

abbrev hbmTy0_0 (i : Nat) : BufTy := match i % 128 with
  | 0 => ⟨S2x8192x1024, .f32⟩
  | 1 => ⟨S2x1024, .f32⟩
  | 2 => ⟨S2x1024, .f32⟩
  | 3 => ⟨S1024, .f32⟩
  | 4 => ⟨S1024x6468, .f32⟩
  | 5 => ⟨S2x8192x1024, .f32⟩
  | 6 => ⟨S_, .f32⟩
  | 7 => ⟨S2x8192, .f32⟩
  | 8 => ⟨S2x8192x1, .f32⟩
  | 9 => ⟨S_, .f32⟩
  | 10 => ⟨S2x8192x1, .f32⟩
  | 11 => ⟨S2x8192x1, .f32⟩
  | 12 => ⟨S_, .f32⟩
  | 13 => ⟨S2x8192x1, .f32⟩
  | 14 => ⟨S2x8192x1, .f32⟩
  | 15 => ⟨S2x8192x1, .f32⟩
  | 16 => ⟨S2x8192x1024, .f32⟩
  | 17 => ⟨S2x8192x1024, .f32⟩
  | 18 => ⟨S1x1x1024, .f32⟩
  | 19 => ⟨S2x8192x1024, .f32⟩
  | 20 => ⟨S2x8192x1024, .f32⟩
  | 21 => ⟨S2x1x1024, .f32⟩
  | 22 => ⟨S_, .f32⟩
  | 23 => ⟨S2x1x1024, .f32⟩
  | 24 => ⟨S2x1x1024, .f32⟩
  | 25 => ⟨S2x8192x1024, .f32⟩
  | 26 => ⟨S2x8192x1024, .f32⟩
  | 27 => ⟨S2x1x1024, .f32⟩
  | 28 => ⟨S2x8192x1024, .f32⟩
  | 29 => ⟨S2x8192x1024, .f32⟩
  | 30 => ⟨S2x8192x6468, .f32⟩
  | 31 => ⟨S2x8192x512, .f32⟩
  | 32 => ⟨S2x8192x512, .f32⟩
  | 33 => ⟨S2x8192x512, .f32⟩
  | 34 => ⟨S2x8192x512, .f32⟩
  | 35 => ⟨S2x8192x256, .f32⟩
  | 36 => ⟨S2x8192x64, .f32⟩
  | 37 => ⟨S2x8192x4, .f32⟩
  | 38 => ⟨S2x8192x512, .f32⟩
  | 39 => ⟨S2x8192x512, .f32⟩
  | 40 => ⟨S2x8192x512, .f32⟩
  | 41 => ⟨S2x8192x512, .f32⟩
  | 42 => ⟨S2x8192x1024, .f32⟩
  | 43 => ⟨S2x8192x1024, .f32⟩
  | 44 => ⟨S8192, .i32⟩
  | 45 => ⟨S2x8192x8x64, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S8192, .f32⟩
  | 55 => ⟨S8192x1, .f32⟩
  | 56 => ⟨S1x32, .f32⟩
  | 57 => ⟨S8192x32, .f32⟩
  | 58 => ⟨S8192x32, .f32⟩
  | 59 => ⟨S8192x32, .f32⟩
  | 60 => ⟨S8192x32, .f32⟩
  | 61 => ⟨S1x8192x1x32, .f32⟩
  | 62 => ⟨S8192x32, .f32⟩
  | 63 => ⟨S1x8192x1x32, .f32⟩
  | 64 => ⟨S2x8192x8x32, .f32⟩
  | 65 => ⟨S2x8192x8x32, .f32⟩
  | 66 => ⟨S2x8192x8x32, .f32⟩
  | 67 => ⟨S2x8192x8x32, .f32⟩
  | 68 => ⟨S2x8192x8x32, .f32⟩
  | 69 => ⟨S2x8192x8x32, .f32⟩
  | 70 => ⟨S2x8192x8x32, .f32⟩
  | 71 => ⟨S2x8192x8x32, .f32⟩
  | 72 => ⟨S2x8192x8x32, .f32⟩
  | 73 => ⟨S2x8192x8x32, .f32⟩
  | 74 => ⟨S2x8192x8x32, .f32⟩
  | 75 => ⟨S2x8192x8x32, .f32⟩
  | 76 => ⟨S2x8192x8x64, .f32⟩
  | 77 => ⟨S2x8192x8x64, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S8192, .f32⟩
  | 87 => ⟨S8192x1, .f32⟩
  | 88 => ⟨S1x32, .f32⟩
  | 89 => ⟨S8192x32, .f32⟩
  | 90 => ⟨S8192x32, .f32⟩
  | 91 => ⟨S8192x32, .f32⟩
  | 92 => ⟨S8192x32, .f32⟩
  | 93 => ⟨S1x8192x1x32, .f32⟩
  | 94 => ⟨S8192x32, .f32⟩
  | 95 => ⟨S1x8192x1x32, .f32⟩
  | 96 => ⟨S2x8192x8x32, .f32⟩
  | 97 => ⟨S2x8192x8x32, .f32⟩
  | 98 => ⟨S2x8192x8x32, .f32⟩
  | 99 => ⟨S2x8192x8x32, .f32⟩
  | 100 => ⟨S2x8192x8x32, .f32⟩
  | 101 => ⟨S2x8192x8x32, .f32⟩
  | 102 => ⟨S2x8192x8x32, .f32⟩
  | 103 => ⟨S2x8192x8x32, .f32⟩
  | 104 => ⟨S2x8192x8x32, .f32⟩
  | 105 => ⟨S2x8192x8x32, .f32⟩
  | 106 => ⟨S2x8192x8x32, .f32⟩
  | 107 => ⟨S2x8192x8x32, .f32⟩
  | 108 => ⟨S2x8192x8x64, .f32⟩
  | 109 => ⟨S_, .f32⟩
  | 110 => ⟨S2x8192x8x64, .f32⟩
  | 111 => ⟨S2x8192x8x64, .f32⟩
  | 112 => ⟨S2x8192x8x64, .f32⟩
  | 113 => ⟨S2x8192x8x64, .f32⟩
  | 114 => ⟨S2x8192x512, .bf16⟩
  | 115 => ⟨S2x64x128x512, .f32⟩
  | 116 => ⟨S2x64x512x128, .f32⟩
  | 117 => ⟨S2x64x512x128, .bf16⟩
  | 118 => ⟨S_, .f32⟩
  | 119 => ⟨S2x8192x512, .f32⟩
  | 120 => ⟨S2x8192x512, .f32⟩
  | 121 => ⟨S2x8192x512, .bf16⟩
  | 122 => ⟨S2x8192x512, .f32⟩
  | 123 => ⟨S2x8192x512, .f32⟩
  | 124 => ⟨S_, .f32⟩
  | 125 => ⟨S2x8192x512, .f32⟩
  | 126 => ⟨S2x8192x512, .f32⟩
  | 127 => ⟨S_, .f32⟩
  | _ => ⟨S2x8192x1024, .f32⟩

abbrev hbmTy0_1 (i : Nat) : BufTy := match i % 128 with
  | 0 => ⟨S2x8192x512, .f32⟩
  | 1 => ⟨S2x8192x512, .f32⟩
  | 2 => ⟨S2x8192x512, .f32⟩
  | 3 => ⟨S2x8192x512, .bf16⟩
  | 4 => ⟨S2x8192x2x4x2x32, .f32⟩
  | 5 => ⟨S2x8192x2x2x4x32, .f32⟩
  | 6 => ⟨S2x8192x512, .f32⟩
  | 7 => ⟨S2x8192x512, .bf16⟩
  | 8 => ⟨S2x8192x2x4x2x32, .f32⟩
  | 9 => ⟨S2x8192x2x2x4x32, .f32⟩
  | 10 => ⟨S2x8192x512, .f32⟩
  | 11 => ⟨S2x8192x512, .bf16⟩
  | 12 => ⟨S2x8192x512, .bf16⟩
  | 13 => ⟨S2x8192x512, .f32⟩
  | 14 => ⟨S2x8192x512, .f32⟩
  | 15 => ⟨S_, .f32⟩
  | 16 => ⟨S2x8192x512, .f32⟩
  | 17 => ⟨S2x8192x512, .f32⟩
  | 18 => ⟨S_, .f32⟩
  | 19 => ⟨S2x8192x512, .f32⟩
  | 20 => ⟨S2x8192x512, .f32⟩
  | 21 => ⟨S2x8192x512, .f32⟩
  | 22 => ⟨S2x8192x512, .bf16⟩
  | 23 => ⟨S2x8192x1024, .f32⟩
  | 24 => ⟨S2x8192x1024, .f32⟩
  | 25 => ⟨S_, .f32⟩
  | 26 => ⟨S2x8192x1024, .f32⟩
  | 27 => ⟨S2x8192x1024, .f32⟩
  | 28 => ⟨S_, .f32⟩
  | 29 => ⟨S2x8192x1024, .f32⟩
  | 30 => ⟨S2x8192x1024, .f32⟩
  | 31 => ⟨S2x8192x1024, .bf16⟩
  | 32 => ⟨S2x8192x1024, .f32⟩
  | 33 => ⟨S2x8192x1024, .f32⟩
  | 34 => ⟨S_, .f32⟩
  | 35 => ⟨S2x8192x1024, .f32⟩
  | 36 => ⟨S2x8192x1024, .f32⟩
  | 37 => ⟨S_, .f32⟩
  | 38 => ⟨S2x8192x1024, .f32⟩
  | 39 => ⟨S2x8192x1024, .f32⟩
  | 40 => ⟨S2x8192x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_5 : Ref sig .tc := ⟨.hbm, 80, rfl⟩
abbrev main_v69 : Ref sig .tc := ⟨.hbm, 81, rfl⟩
abbrev main_v70 : Ref sig .tc := ⟨.hbm, 82, rfl⟩
abbrev main_cst_6 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_7 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_8 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_call0_v0 : Ref sig .tc := ⟨.hbm, 122, rfl⟩
abbrev main_call0_v1 : Ref sig .tc := ⟨.hbm, 123, rfl⟩
abbrev main_call0_cst : Ref sig .tc := ⟨.hbm, 124, rfl⟩
abbrev main_call0_v2 : Ref sig .tc := ⟨.hbm, 125, rfl⟩
abbrev main_call0_v3 : Ref sig .tc := ⟨.hbm, 126, rfl⟩
abbrev main_call0_cst_0 : Ref sig .tc := ⟨.hbm, 127, rfl⟩
abbrev main_call0_v4 : Ref sig .tc := ⟨.hbm, 128, rfl⟩
abbrev main_call0_v5 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_call1_v0 : Ref sig .tc := ⟨.hbm, 141, rfl⟩
abbrev main_call1_v1 : Ref sig .tc := ⟨.hbm, 142, rfl⟩
abbrev main_call1_cst : Ref sig .tc := ⟨.hbm, 143, rfl⟩
abbrev main_call1_v2 : Ref sig .tc := ⟨.hbm, 144, rfl⟩
abbrev main_call1_v3 : Ref sig .tc := ⟨.hbm, 145, rfl⟩
abbrev main_call1_cst_0 : Ref sig .tc := ⟨.hbm, 146, rfl⟩
abbrev main_call1_v4 : Ref sig .tc := ⟨.hbm, 147, rfl⟩
abbrev main_call1_v5 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_9 : Ref sig .tc := ⟨.hbm, 153, rfl⟩
abbrev main_v122 : Ref sig .tc := ⟨.hbm, 154, rfl⟩
abbrev main_v123 : Ref sig .tc := ⟨.hbm, 155, rfl⟩
abbrev main_cst_10 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_11 : Ref sig .tc := ⟨.hbm, 162, rfl⟩
abbrev main_v129 : Ref sig .tc := ⟨.hbm, 163, rfl⟩
abbrev main_v130 : Ref sig .tc := ⟨.hbm, 164, rfl⟩
abbrev main_cst_12 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x1024 : Shape := ⟨2, ![2, 1024]⟩
abbrev S2x8192x512 : Shape := ⟨3, ![2, 8192, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S8x64 : Shape := ⟨2, ![8, 64]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x1x1024 : Shape := ⟨3, ![2, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S1x512x512 : Shape := ⟨3, ![1, 512, 512]⟩

abbrev nBuf : Space → Nat
  | .hbm => 32
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x8192x512, .bf16⟩
  | .hbm, ⟨3, _⟩ => ⟨S2x8192x512, .bf16⟩
  | .hbm, ⟨4, _⟩ => ⟨S2x8192x512, .f32⟩
  | .hbm, ⟨5, _⟩ => ⟨S2x8192x512, .bf16⟩
  | .hbm, ⟨6, _⟩ => ⟨S2x8192x1024, .bf16⟩
  | .hbm, ⟨7, _⟩ => ⟨S2x8192x1024, .bf16⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S8x64, .i32⟩
  | .hbm, ⟨14, _⟩ => ⟨S512, .i32⟩
  | .hbm, ⟨15, _⟩ => ⟨S512x1, .i32⟩
  | .hbm, ⟨16, _⟩ => ⟨S1x512, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .bf16⟩
  | .hbm, ⟨25, _⟩ => ⟨S512x1024, .bf16⟩
  | .hbm, ⟨26, _⟩ => ⟨S512x1024, .bf16⟩
  | .hbm, ⟨27, _⟩ => ⟨S1024x1024, .bf16⟩
  | .hbm, ⟨28, _⟩ => ⟨S2x1x1024, .f32⟩
  | .hbm, ⟨29, _⟩ => ⟨S1x512, .f32⟩
  | .hbm, ⟨30, _⟩ => ⟨S1x1024, .f32⟩
  | .hbm, ⟨31, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .bf16⟩
  | .local _ .vmem, ⟨11, _⟩ => ⟨S1x512x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S512x512, .bf16⟩
  | .local _ .vmem, ⟨17, _⟩ => ⟨S1x512, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S2x8192x1024 : Shape := ⟨3, ![2, 8192, 1024]⟩
abbrev S2x1024 : Shape := ⟨2, ![2, 1024]⟩
abbrev S2x8192x512 : Shape := ⟨3, ![2, 8192, 512]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S2x8192x8x64 : Shape := ⟨4, ![2, 8192, 8, 64]⟩
abbrev S_ : Shape := ⟨0, ![]⟩
abbrev S2x8192x8 : Shape := ⟨3, ![2, 8192, 8]⟩
abbrev S2x8192x8x1 : Shape := ⟨4, ![2, 8192, 8, 1]⟩
abbrev S1x1x512 : Shape := ⟨3, ![1, 1, 512]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x8192x512, .bf16⟩
  | .hbm, ⟨3, _⟩ => ⟨S2x8192x512, .bf16⟩
  | .hbm, ⟨4, _⟩ => ⟨S2x8192x512, .f32⟩
  | .hbm, ⟨5, _⟩ => ⟨S2x8192x512, .bf16⟩
  | .hbm, ⟨6, _⟩ => ⟨S2x8192x1024, .bf16⟩
  | .hbm, ⟨7, _⟩ => ⟨S2x8192x1024, .bf16⟩
  | .hbm, ⟨8, _⟩ => ⟨S512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S2x8192x512, .f32⟩
  | .hbm, ⟨14, _⟩ => ⟨S2x8192x512, .f32⟩
  | .hbm, ⟨15, _⟩ => ⟨S2x8192x512, .f32⟩
  | .hbm, ⟨16, _⟩ => ⟨S2x8192x1024, .f32⟩
  | .hbm, ⟨17, _⟩ => ⟨S2x8192x1024, .f32⟩
  | .hbm, ⟨18, _⟩ => ⟨S2x8192x512, .f32⟩
  | .hbm, ⟨19, _⟩ => ⟨S2x8192x8x64, .f32⟩
  | .hbm, ⟨20, _⟩ => ⟨S_, .f32⟩
  | .hbm, ⟨21, _⟩ => ⟨S2x8192x8, .f32⟩
  | .hbm, ⟨22, _⟩ => ⟨S2x8192x8x1, .f32⟩
  | .hbm, ⟨23, _⟩ => ⟨S_, .f32⟩
  | .hbm, ⟨24, _⟩ => ⟨S2x8192x8x1, .f32⟩
  | .hbm, ⟨25, _⟩ => ⟨S2x8192x8x1, .f32⟩
  | .hbm, ⟨26, _⟩ => ⟨S2x8192x8x64, .f32⟩
  | .hbm, ⟨27, _⟩ => ⟨S2x8192x8x64, .f32⟩
  | .hbm, ⟨28, _⟩ => ⟨S2x8192x8x64, .f32⟩
  | .hbm, ⟨29, _⟩ => ⟨S_, .f32⟩
  | .hbm, ⟨30, _⟩ => ⟨S2x8192x8, .f32⟩
  | .hbm, ⟨31, _⟩ => ⟨S2x8192x8x1, .f32⟩
  | .hbm, ⟨32, _⟩ => ⟨S_, .f32⟩
  | .hbm, ⟨33, _⟩ => ⟨S2x8192x8x1, .f32⟩
  | .hbm, ⟨34, _⟩ => ⟨S2x8192x8x1, .f32⟩
  | .hbm, ⟨35, _⟩ => ⟨S2x8192x8x64, .f32⟩
  | .hbm, ⟨36, _⟩ => ⟨S2x8192x8x64, .f32⟩
  | .hbm, ⟨37, _⟩ => ⟨S_, .f32⟩
  | .hbm, ⟨38, _⟩ => ⟨S2x8192x8x1, .f32⟩
  | .hbm, ⟨39, _⟩ => ⟨S2x8192x8x1, .f32⟩
  | .hbm, ⟨40, _⟩ => ⟨S2x8192x8x1, .f32⟩
  | .hbm, ⟨41, _⟩ => ⟨S2x8192x8x64, .f32⟩
  | .hbm, ⟨42, _⟩ => ⟨S2x8192x8x64, .f32⟩
  | .hbm, ⟨43, _⟩ => ⟨S2x8192x512, .f32⟩
  | .hbm, ⟨44, _⟩ => ⟨S1x1x512, .f32⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x1x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x8192, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S2x8192x1, .f32⟩
  | .hbm, ⟨69, _⟩ => ⟨S2x8192x1024, .f32⟩
  | .hbm, ⟨70, _⟩ => ⟨S2x8192x1024, .f32⟩
  | .hbm, ⟨71, _⟩ => ⟨S1x1x1024, .f32⟩
  | .hbm, ⟨72, _⟩ => ⟨S2x8192x1024, .f32⟩
  | .hbm, ⟨73, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Proof.Retention.lean ====
module

public import Idealize.ShloMosaic.Lib.Pointwise

@[expose] public section

noncomputable section

/-!
The chunkwise recurrence on extended reals, as both programs compute it, and the packed form of its state: for each half `g` of the heads a
matrix of 256 rows (a row `r` belongs to the half's head `(r % 128) / 32` and to its feature `32 * (r / 128) + r % 32`) by 256 columns (a
column `c` belongs to the half's head `c / 64`), zero where row and column belong to different heads.
-/

namespace Cert.Retention

open Idealize.ShloMosaic

/-- A whole number as a float. -/
def num (n : Nat) : EReal := (FloatOps.sitofp FTy.f32 (BitVec.ofNat 32 n) : Ideal .f32)

/-- The logarithm of head `h`'s decay. -/
def lg (h : Fin 8) : EReal :=
  Ideal.log1p (-Ideal.exp (Ideal.ofBits FTy.f32 1060205080#32 * (Ideal.ofBits FTy.f32 3231711232#32 - num h.val)))

/-- The decay between row `i` and the row `j` before it, zero after it. -/
def Dm (h : Fin 8) (i j : Fin 128) : EReal := if 0 ≤ num i.val - num j.val then Ideal.exp (lg h * max (num i.val - num j.val) 0) else 0
/-- The decays of a row's query, of a row's key, and of the state over a chunk. -/
def Qd (i : Fin 128) (h : Fin 8) : EReal := Ideal.exp (lg h * (num i.val + 1))
def Kd (j : Fin 128) (h : Fin 8) : EReal := Ideal.exp (lg h * (Ideal.ofBits FTy.f32 1123942400#32 - num j.val))
def Gc (h : Fin 8) : EReal := Ideal.exp (lg h * Ideal.ofBits FTy.f32 1124073472#32)

/-- Rows by chunk: batch, chunk, row of the chunk, head, feature. -/
abbrev Rows := Fin 2 → Fin 64 → Fin 128 → Fin 8 → Fin 64 → EReal

/-- An array of 512 columns by chunks: a query's or key's columns hold, for each half of the heads, the first 32 features of its four heads
    and then their last 32; a value's have the heads in order. -/
def feats (X : FVec Ideal ⟨3, ![2, 8192, 512]⟩ .bf16) : Rows := fun b n i h d =>
  X (ix3 b ⟨n.val * 128 + i.val, by omega⟩ ⟨h.val / 4 * 256 + d.val / 32 * 128 + h.val % 4 * 32 + d.val % 32, by omega⟩)
def lanes (X : FVec Ideal ⟨3, ![2, 8192, 512]⟩ .bf16) : Rows := fun b n i h d =>
  X (ix3 b ⟨n.val * 128 + i.val, by omega⟩ ⟨h.val * 64 + d.val, by omega⟩)

/-- The state before chunk `n`. -/
def state (k v : Rows) : Nat → Fin 2 → Fin 8 → Fin 64 → Fin 64 → EReal
  | 0 => fun _ _ _ _ => 0
  | n + 1 => fun b h d e => Gc h * state k v n b h d e + ∑ j : Fin 128, k b (Fin.ofNat 64 n) j h d * Kd j h * v b (Fin.ofNat 64 n) j h e

/-- Chunk `n`'s result rows. -/
def rows (q k v : Rows) (n : Fin 64) (b : Fin 2) (i : Fin 128) (h : Fin 8) (e : Fin 64) : EReal :=
  (∑ j : Fin 128, (∑ d : Fin 64, q b n i h d * k b n j h d) * Dm h i j * v b n j h e)
    + (∑ d : Fin 64, q b n i h d * state k v n.val b h d e) * Qd i h

/-! ## The packed state -/

/-- The head of half `g` in place `a` of its four. -/
def hd (g : Fin 2) (a : Fin 4) : Fin 8 := ⟨4 * g.val + a.val, by omega⟩
/-- Row `r`'s head among the half's four and its feature; column `c`'s head and feature. -/
def rowHead (r : Fin 256) : Fin 4 := ⟨r.val % 128 / 32, by omega⟩
def rowFeat (r : Fin 256) : Fin 64 := ⟨32 * (r.val / 128) + r.val % 32, by omega⟩
def colHead (c : Fin 256) : Fin 4 := ⟨c.val / 64, by omega⟩
def colFeat (c : Fin 256) : Fin 64 := ⟨c.val % 64, by omega⟩
/-- The row of head `a`'s feature `d`. -/
def rowOf (a : Fin 4) (d : Fin 64) : Fin 256 := ⟨128 * (d.val / 32) + 32 * a.val + d.val % 32, by omega⟩

theorem rowHead_rowOf (a : Fin 4) (d : Fin 64) : rowHead (rowOf a d) = a := Fin.ext (by simp only [rowHead, rowOf]; omega)
theorem rowFeat_rowOf (a : Fin 4) (d : Fin 64) : rowFeat (rowOf a d) = d := Fin.ext (by simp only [rowFeat, rowOf]; omega)
theorem rowOf_of (r : Fin 256) : rowOf (rowHead r) (rowFeat r) = r := Fin.ext (by simp only [rowHead, rowFeat, rowOf]; omega)

def pack (S : Fin 2 → Fin 8 → Fin 64 → Fin 64 → EReal) (b g : Fin 2) (r c : Fin 256) : EReal :=
  if rowHead r = colHead c then S b (hd g (rowHead r)) (rowFeat r) (colFeat c) else 0

/-- A sum over a half's rows that only head `a`'s rows enter is one over that head's features. -/
theorem sum_head (f : Fin 256 → EReal) (a : Fin 4) : (∑ r : Fin 256, if rowHead r = a then f r else 0) = ∑ d : Fin 64, f (rowOf a d) := by
  refine (Fintype.sum_of_injective (rowOf a) (fun d d' h => ?_) _ _ (fun r hr => ?_) fun d => ?_).symm
  · rw [← rowFeat_rowOf a d, h, rowFeat_rowOf]
  · refine if_neg fun h => hr ⟨rowFeat r, ?_⟩
    rw [← h, rowOf_of]
  · rw [if_pos (rowHead_rowOf a d)]

/-- One chunk's step of the packed state is the packed step. -/
theorem pack_step (k v : Rows) (n : Nat) (b g : Fin 2) (r c : Fin 256) :
    pack (state k v n) b g r c * Gc (hd g (colHead c))
      + (∑ j : Fin 128, k b (Fin.ofNat 64 n) j (hd g (rowHead r)) (rowFeat r)
            * (v b (Fin.ofNat 64 n) j (hd g (colHead c)) (colFeat c) * Kd j (hd g (colHead c)))) * (if rowHead r = colHead c then 1 else 0)
      = pack (state k v (n + 1)) b g r c := by
  unfold pack
  by_cases h : rowHead r = colHead c
  · simp only [if_pos h, state, mul_one, h, if_true]
    rw [mul_comm]
    congr 1
    exact Finset.sum_congr rfl fun j _ => by rw [mul_comm (v _ _ _ _ _), mul_assoc]
  · simp only [if_neg h, zero_mul, mul_zero, add_zero]

/-- A packed chunk's rows are the chunk's rows. -/
theorem pack_rows (q k v : Rows) (n : Fin 64) (b g : Fin 2) (i : Fin 128) (a : Fin 4) (c : Fin 256) (hc : colHead c = a) :
    (∑ j : Fin 128, (∑ r : Fin 256, q b n i (hd g (rowHead r)) (rowFeat r) * (if rowHead r = a then 1 else 0)
            * k b n j (hd g (rowHead r)) (rowFeat r)) * Dm (hd g a) i j * v b n j (hd g a) (colFeat c))
      + (∑ r : Fin 256, q b n i (hd g (rowHead r)) (rowFeat r) * pack (state k v n.val) b g r c) * Qd i (hd g a)
      = rows q k v n b i (hd g a) (colFeat c) := by
  have h1 : ∀ j, (∑ r : Fin 256, q b n i (hd g (rowHead r)) (rowFeat r) * (if rowHead r = a then 1 else 0)
      * k b n j (hd g (rowHead r)) (rowFeat r)) = ∑ d : Fin 64, q b n i (hd g a) d * k b n j (hd g a) d := fun j => by
    have e := sum_head (fun r => q b n i (hd g (rowHead r)) (rowFeat r) * k b n j (hd g (rowHead r)) (rowFeat r)) a
    simp only [rowHead_rowOf, rowFeat_rowOf] at e
    rw [← e]
    exact Finset.sum_congr rfl fun r _ => by split_ifs <;> simp only [mul_one, mul_zero, zero_mul]
  have h2 : (∑ r : Fin 256, q b n i (hd g (rowHead r)) (rowFeat r) * pack (state k v n.val) b g r c)
      = ∑ d : Fin 64, q b n i (hd g a) d * state k v n.val b (hd g a) d (colFeat c) := by
    have e := sum_head (fun r => q b n i (hd g (rowHead r)) (rowFeat r) * state k v n.val b (hd g (rowHead r)) (rowFeat r) (colFeat c)) a
    simp only [rowHead_rowOf, rowFeat_rowOf] at e
    rw [← e]
    exact Finset.sum_congr rfl fun r _ => by unfold pack; rw [hc]; split_ifs <;> simp only [mul_zero]
  simp only [h1, h2, rows]

end Cert.Retention
-- ==== Proof.Fold.lean ====
module

public import proofs.«01_k».proof.Proof.Gen.ReferenceIdeal.Run
public import proofs.«01_k».proof.Proof.Retention
public import Idealize.ShloMosaic.Lib.StableHlo.ReadAt
public import Idealize.ShloMosaic.Lib.Pointwise
public import Idealize.ShloMosaic.Lib.DynamicIndex

@[expose] public section

set_option maxRecDepth 16384

noncomputable section

/-!
The reference's loop: before trip `k` its counter is `k`, its state the recurrence's state before chunk `k`, and its result rows of the
chunks before `k` are the recurrence's.
-/

namespace Cert.ReferenceIdeal.Fold

open Cert.ReferenceIdeal Cert.ReferenceIdeal.Value Idealize.ShloMosaic Idealize.ShloMosaic.TcCoe Idealize.SL.Sem Idealize.ShloMosaic.StableHlo
open Cert.Retention (feats lanes state rows)

section Trip

variable (V : Valuation τ sig (Elt Ideal))

theorem start_at (n : Fin 64) (hn : V (Proc.devRef .tc main_v18_3) = fun _ => BitVec.ofNat 32 n.val) (a : Fin 5) :
    ((![V (Proc.devRef .tc main_v18_3), constantI S_ 32 0#32, constantI S_ 32 0#32, constantI S_ 32 0#32, constantI S_ 32 0#32] :
      Fin 5 → (⟨S_, .i32⟩ : BufTy).Contents (Elt Ideal)) a (Shape.Idx.first Gen.h_S_)).toInt = ((![n.val, 0, 0, 0, 0] : Fin 5 → Nat) a : Int) := by
  rw [hn]
  fin_cases a
  · exact toInt_ofNat_of_lt (by have := n.isLt; omega)
  all_goals rfl

theorem fits (n : Fin 64) : S64x2x128x8x64.Slices ![n.val, 0, 0, 0, 0] S1x2x128x8x64 :=
  ⟨rfl, fun a => by fin_cases a <;> first | exact Nat.succ_le_of_lt n.isLt | exact Nat.le_refl _⟩

theorem clamp_at (n : Fin 64) (hn : V (Proc.devRef .tc main_v18_3) = fun _ => BitVec.ofNat 32 n.val) (a : Fin 5) :
    (min (max ((![V (Proc.devRef .tc main_v18_3), constantI S_ 32 0#32, constantI S_ 32 0#32, constantI S_ 32 0#32, constantI S_ 32 0#32] :
      Fin 5 → (⟨S_, .i32⟩ : BufTy).Contents (Elt Ideal)) a (Shape.Idx.first Gen.h_S_)).toInt 0)
      ((S64x2x128x8x64.size a - S1x2x128x8x64.size (a.cast rfl) : Nat) : Int)).toNat = (![n.val, 0, 0, 0, 0] : Fin 5 → Nat) a := by
  rw [start_at V n hn a]
  have h := (fits n).2 a
  have e : ∀ x s u : Nat, x + u ≤ s → (min (max (x : Int) 0) ((s - u : Nat) : Int)).toNat = x := fun x s u h => by omega
  exact e _ _ _ h

/-- Trip `n` reads chunk `n` of the queries, -/
theorem query_at (n : Fin 64) (hn : V (Proc.devRef .tc main_v18_3) = fun _ => BitVec.ofNat 32 n.val) (b : Fin 2) (i : Fin 128) (h : Fin 8) (d : Fin 64) :
    res_main_while0b_v21 V (ix4 b i h d) = V (Proc.devRef .tc main_v18_0) (ix5 n b i h d) := by
  unfold res_main_while0b_v21
  rw [Host.dynamicSlice_eq_extractStridedSlice _ _ _ ![n.val, 0, 0, 0, 0] _ (fits n) (start_at V n hn)]
  pointwise []

/-- of the keys, -/
theorem key_at (n : Fin 64) (hn : V (Proc.devRef .tc main_v18_3) = fun _ => BitVec.ofNat 32 n.val) (b : Fin 2) (i : Fin 128) (h : Fin 8) (d : Fin 64) :
    res_main_while0b_v22 V (ix4 b i h d) = V (Proc.devRef .tc main_v18_1) (ix5 n b i h d) := by
  unfold res_main_while0b_v22
  rw [Host.dynamicSlice_eq_extractStridedSlice _ _ _ ![n.val, 0, 0, 0, 0] _ (fits n) (start_at V n hn)]
  pointwise []

/-- and of the values. -/
theorem value_at (n : Fin 64) (hn : V (Proc.devRef .tc main_v18_3) = fun _ => BitVec.ofNat 32 n.val) (b : Fin 2) (i : Fin 128) (h : Fin 8) (d : Fin 64) :
    res_main_while0b_v23 V (ix4 b i h d) = V (Proc.devRef .tc main_v18_2) (ix5 n b i h d) := by
  unfold res_main_while0b_v23
  rw [Host.dynamicSlice_eq_extractStridedSlice _ _ _ ![n.val, 0, 0, 0, 0] _ (fits n) (start_at V n hn)]
  pointwise []

/-- A trip's queries, keys and values, and the state it starts from. -/
def queries (b : Fin 2) (i : Fin 128) (h : Fin 8) (d : Fin 64) : EReal := res_main_while0b_v21 V (ix4 b i h d)
def keys (b : Fin 2) (i : Fin 128) (h : Fin 8) (d : Fin 64) : EReal := res_main_while0b_v22 V (ix4 b i h d)
def values (b : Fin 2) (i : Fin 128) (h : Fin 8) (d : Fin 64) : EReal := res_main_while0b_v23 V (ix4 b i h d)
def carried (b : Fin 2) (h : Fin 8) (d e : Fin 64) : EReal := V (Proc.devRef .tc main_v18_4) (ix4 b h d e)

/-- What a trip makes of the state, -/
theorem state_at (b : Fin 2) (h : Fin 8) (d e : Fin 64) :
    step_main_v18_4 V (ix4 b h d e) = Retention.Gc h * carried V b h d e
      + ∑ j : Fin 128, keys V b j h d * Retention.Kd j h * values V b j h e := by
  unfold step_main_v18_4 res_main_while0b_v31 res_main_while0b_v32
  simp only [id_eq]
  pointwise []
  rfl

/-- and of the result rows. -/
theorem rows_at (n n' : Fin 64) (hn : V (Proc.devRef .tc main_v18_3) = fun _ => BitVec.ofNat 32 n'.val) (b : Fin 2) (i : Fin 128) (h : Fin 8) (e : Fin 64) :
    step_main_v18_5 V (ix5 n b i h e) = if n = n' then
      (∑ j : Fin 128, (∑ d : Fin 64, queries V b i h d * keys V b j h d) * Retention.Dm h i j
          * values V b j h e)
        + (∑ d : Fin 64, queries V b i h d * carried V b h d e) * Retention.Qd i h
      else V (Proc.devRef .tc main_v18_5) (ix5 n b i h e) := by
  unfold step_main_v18_5 res_main_while0b_v37 res_main_while0b_v31 res_main_while0b_v32
  rw [Host.dynamicUpdateSlice_eq_updateSlice _ _ _ _ ![n'.val, 0, 0, 0, 0] (clamp_at V n' hn) (fits n')]
  simp only [id_eq]
  pointwise []
  by_cases hc : n = n'
  · rw [dif_pos, if_pos hc]
    · congr 1
      · exact Finset.sum_congr rfl fun j _ => mul_comm _ _
      · congr 1
        exact Finset.sum_congr rfl fun d _ => mul_comm _ _
    · subst hc
      intro a
      fin_cases a
      · exact ⟨Nat.le_refl _, Nat.lt_succ_self _⟩
      · exact ⟨Nat.zero_le _, by simpa using b.isLt⟩
      · exact ⟨Nat.zero_le _, by simpa using i.isLt⟩
      · exact ⟨Nat.zero_le _, by simpa using h.isLt⟩
      · exact ⟨Nat.zero_le _, by simpa using e.isLt⟩
  · rw [dif_neg, if_neg hc]
    intro ha
    have h0 := ha 0
    exact hc (Fin.ext (Nat.le_antisymm (Nat.lt_succ_iff.mp (by simpa [Nat.add_comm] using h0.2)) h0.1))

end Trip

variable (m : (ℓ : Loc nD τ sig) → Buf (Elt Ideal) ℓ)

/-- What the loop starts from. -/
theorem entry_query (c : Dev nD) (n : Fin 64) (b : Fin 2) (i : Fin 128) (h : Fin 8) (d : Fin 64) :
    entryContents preI m c (Proc.devRef .tc main_v18_0) (ix5 n b i h d) = feats (m ((c.tc : Thread nD τ).loc main_arg0)) b n i h d := by
  simp only [entryContents, afterL_cons, afterL_nil]
  after_reads_at
  simp only [id_eq]
  pointwise []
  rfl

theorem entry_key (c : Dev nD) (n : Fin 64) (b : Fin 2) (i : Fin 128) (h : Fin 8) (d : Fin 64) :
    entryContents preI m c (Proc.devRef .tc main_v18_1) (ix5 n b i h d) = feats (m ((c.tc : Thread nD τ).loc main_arg1)) b n i h d := by
  simp only [entryContents, afterL_cons, afterL_nil]
  after_reads_at
  simp only [id_eq]
  pointwise []
  rfl

theorem entry_value (c : Dev nD) (n : Fin 64) (b : Fin 2) (i : Fin 128) (h : Fin 8) (d : Fin 64) :
    entryContents preI m c (Proc.devRef .tc main_v18_2) (ix5 n b i h d) = lanes (m ((c.tc : Thread nD τ).loc main_arg2)) b n i h d := by
  simp only [entryContents, afterL_cons, afterL_nil]
  after_reads_at
  simp only [id_eq]
  pointwise []
  rfl

theorem entry_state (c : Dev nD) (b : Fin 2) (h : Fin 8) (d e : Fin 64) :
    entryContents preI m c (Proc.devRef .tc main_v18_4) (ix4 b h d e) = (0 : EReal) := by
  simp only [entryContents, afterL_cons, afterL_nil]
  after_reads_at
  simp only [id_eq]
  pointwise []

/-- What holds before trip `k`. -/
structure Before (c : Dev nD) (k : Nat) : Prop where
  query : ∀ n b i h d, (STEP^[k] (entryContents preI m c)) (Proc.devRef .tc main_v18_0) (ix5 n b i h d)
    = feats (m ((c.tc : Thread nD τ).loc main_arg0)) b n i h d
  key : ∀ n b i h d, (STEP^[k] (entryContents preI m c)) (Proc.devRef .tc main_v18_1) (ix5 n b i h d)
    = feats (m ((c.tc : Thread nD τ).loc main_arg1)) b n i h d
  value : ∀ n b i h d, (STEP^[k] (entryContents preI m c)) (Proc.devRef .tc main_v18_2) (ix5 n b i h d)
    = lanes (m ((c.tc : Thread nD τ).loc main_arg2)) b n i h d
  counter : (STEP^[k] (entryContents preI m c)) (Proc.devRef .tc main_v18_3) = fun _ => BitVec.ofNat 32 k
  state : ∀ b h d e, (STEP^[k] (entryContents preI m c)) (Proc.devRef .tc main_v18_4) (ix4 b h d e)
    = Retention.state (feats (m ((c.tc : Thread nD τ).loc main_arg1))) (lanes (m ((c.tc : Thread nD τ).loc main_arg2))) k b h d e
  rows : ∀ n b i h e, n.val < k → (STEP^[k] (entryContents preI m c)) (Proc.devRef .tc main_v18_5) (ix5 n b i h e)
    = Retention.rows (feats (m ((c.tc : Thread nD τ).loc main_arg0))) (feats (m ((c.tc : Thread nD τ).loc main_arg1)))
        (lanes (m ((c.tc : Thread nD τ).loc main_arg2))) n b i h e

theorem before (c : Dev nD) : ∀ k, k ≤ 64 → Before m c k
  | 0, _ => ⟨entry_query m c, entry_key m c, entry_value m c, ctr_entry m c, entry_state m c, fun _ _ _ _ _ h => absurd h (Nat.not_lt_zero _)⟩
  | k + 1, hk => by
    have H := before c k (by omega)
    have hc : (STEP^[k] (entryContents preI m c)) (Proc.devRef .tc main_v18_3) = fun _ => BitVec.ofNat 32 (Fin.ofNat 64 k).val := by
      rw [H.counter]; simp only [Fin.val_ofNat]; rw [Nat.mod_eq_of_lt (by omega)]
    refine ⟨?_, ?_, ?_, ?_, ?_, ?_⟩ <;> simp only [Function.iterate_succ_apply']
    · intro n b i h d; rw [STEP_main_v18_0]; exact H.query n b i h d
    · intro n b i h d; rw [STEP_main_v18_1]; exact H.key n b i h d
    · intro n b i h d; rw [STEP_main_v18_2]; exact H.value n b i h d
    · rw [STEP_main_v18_3]; unfold step_main_v18_3; rw [H.counter]
      funext j
      exact (BitVec.ofNat_add k 1).symm
    · intro b h d e
      rw [STEP_main_v18_4, state_at]
      simp only [carried, keys, values, H.state, key_at _ _ hc, value_at _ _ hc, H.key, H.value]
      rfl
    · intro n b i h e hn
      rw [STEP_main_v18_5, rows_at _ _ _ hc]
      by_cases e' : n = Fin.ofNat 64 k
      · have ek : n.val = k := by rw [e']; simp only [Fin.val_ofNat]; exact Nat.mod_eq_of_lt (by omega)
        rw [if_pos e']
        simp only [queries, keys, values, carried, query_at _ _ hc, key_at _ _ hc, value_at _ _ hc, H.query, H.key, H.value, H.state, Retention.rows, ek, ← e']
      · rw [if_neg e']
        refine H.rows n b i h e ?_
        rcases Nat.lt_or_ge n.val k with h | h
        · exact h
        · exact absurd (Fin.ext (by simp only [Fin.val_ofNat]; rw [Nat.mod_eq_of_lt (by omega)]; omega)) e'

/-- The two results. -/
theorem rows_result (c : Dev nD) (b : Fin 2) (s : Fin 8192) (l : Fin 512) :
    out_main_v20 (STEP^[64] (entryContents preI m c)) (ix3 b s l)
      = rows (feats (m ((c.tc : Thread nD τ).loc main_arg0))) (feats (m ((c.tc : Thread nD τ).loc main_arg1)))
          (lanes (m ((c.tc : Thread nD τ).loc main_arg2))) ⟨s.val / 128, by omega⟩ b ⟨s.val % 128, by omega⟩ ⟨l.val / 64, by omega⟩
          ⟨l.val % 64, by omega⟩ := by
  have h := (before m c 64 (Nat.le_refl _)).rows ⟨s.val / 128, by omega⟩ b ⟨s.val % 128, by omega⟩ ⟨l.val / 64, by omega⟩
    ⟨l.val % 64, by omega⟩ (by show s.val / 128 < 64; omega)
  rw [← h]
  unfold out_main_v20
  pointwise []

theorem state_result (c : Dev nD) (b : Fin 2) (h : Fin 8) (d e : Fin 64) :
    (STEP^[64] (entryContents preI m c)) (Proc.devRef .tc main_v18_4) (ix4 b h d e)
      = state (feats (m ((c.tc : Thread nD τ).loc main_arg1))) (lanes (m ((c.tc : Thread nD τ).loc main_arg2))) 64 b h d e :=
  (before m c 64 (Nat.le_refl _)).state b h d e

end Cert.ReferenceIdeal.Fold
-- ==== Proof.Body.lean ====
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

/-- Column `c` of half `g` of a row of 512. -/
def col (g : Fin 2) (c : Fin 256) : Fin 512 := ⟨256 * g.val + c.val, by omega⟩

/-- One point's new state. -/
def stepS (k v : FVec Ideal S2x128x512 .bf16) (kd : FVec Ideal S128x512 .f32) (gc : FVec Ideal S1x512 .f32)
    (bd : FVec Ideal S256x256 .f32) (S : FVec Ideal S2x2x256x256 .f32) (b g : Fin 2) (r e : Fin 256) : EReal :=
  S (ix4 b g r e) * gc (ix2 0 (col g e))
    + (∑ j : Fin 128, k (ix3 b j (col g r)) * (v (ix3 b j (col g e)) * kd (ix2 j (col g e)))) * bd (ix2 r e)

/-- Of column pair `p`: the half of the row it lies in; of its half `h`, the head's place among that half's four, and among the eight. -/
def grp (p : Fin 4) : Fin 2 := ⟨p.val / 2, by omega⟩
def loc (p : Fin 4) (h : Fin 2) : Fin 4 := ⟨2 * (p.val % 2) + h.val, by omega⟩
def head (p : Fin 4) (h : Fin 2) : Fin 8 := ⟨2 * p.val + h.val, by omega⟩
/-- Lane `l` of column pair `p`, in the row and in the row's half. -/
def out (p : Fin 4) (l : Fin 128) : Fin 512 := ⟨128 * p.val + l.val, by omega⟩
def wide (p : Fin 4) (l : Fin 128) : Fin 256 := ⟨128 * (p.val % 2) + l.val, by omega⟩

/-- One point's result rows. -/
def stepR (q k v : FVec Ideal S2x128x512 .bf16) (dm : FVec Ideal S8x128x128 .f32) (qd : FVec Ideal S128x512 .f32)
    (hm : FVec Ideal S4x1x256 .bf16) (S : FVec Ideal S2x2x256x256 .f32) (b : Fin 2) (i : Fin 128) (p : Fin 4) (h : Fin 2)
    (l : Fin 128) : EReal :=
  (∑ j : Fin 128, (∑ r : Fin 256, q (ix3 b i (col (grp p) r)) * hm (ix3 (loc p h) 0 r) * k (ix3 b j (col (grp p) r)))
        * dm (ix3 (head p h) i j) * v (ix3 b j (out p l)))
    + (∑ r : Fin 256, q (ix3 b i (col (grp p) r)) * S (ix4 b (grp p) r (wide p l))) * qd (ix2 i (out p l))

theorem select_lo (x : Fin 128) (a b : EReal) (h : x.val < 64) :
    Scalar.select (IntOp.cmpi CmpIPredicate.slt (BitVec.ofNat 32 x.val) 64#32) a b = a := by
  have : IntOp.cmpi CmpIPredicate.slt (BitVec.ofNat 32 x.val) 64#32 = 1#1 := by
    revert h; revert x; decide
  rw [this]; rfl

theorem select_hi (x : Fin 128) (a b : EReal) (h : 64 ≤ x.val) :
    Scalar.select (IntOp.cmpi CmpIPredicate.slt (BitVec.ofNat 32 x.val) 64#32) a b = b := by
  have : IntOp.cmpi CmpIPredicate.slt (BitVec.ofNat 32 x.val) 64#32 = 0#1 := by
    revert h; revert x; decide
  rw [this]; rfl

/-- Stores made before others that cover an index do not show there. -/
theorem canon_append_left {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_left L' L y ?_
      obtain ⟨q, hq, hy⟩ := h
      rcases List.mem_cons.mp hq with rfl | hq'
      · exact absurd hy hm
      · exact ⟨q, hq', hy⟩

theorem canon_five {S : Shape} {e : EltTy} (p0 p1 p2 p3 q : View.Piece (Elt Ideal) S e) (y : S.Idx)
    (h : ∃ p ∈ [p0, p1, p2, p3], y ∈ p.1.set) : View.canon [p0, p1, p2, p3, q] y = View.canon [p0, p1, p2, p3] y :=
  canon_append_left [q] [p0, p1, p2, p3] y h

variable (m : (ℓ : Loc nD τ sig) → Buf (Elt Ideal) ℓ)

theorem state_A (c : Dev nD) (t : Fin cfg0.N) (h0 : t.val % 64 = 0) (h1 : ¬t.val % 64 = 63) (b g : Fin 2) (r e : Fin 256) :
    (outsAt0 m c t.val t.isLt).2.2 (ix4 b g r e) = stepS (iblk m c 1 t) (iblk m c 2 t) (iblk m c 6 t) (iblk m c 7 t) (iblk m c 8 t)
      (iblk m c 3 t) b g r e := by
  rw [outsAt0_A m c t h0 h1]
  frame_open
  simp (disch := decide) only [↓ View.readCov_skip, ↓ View.readCov_cons_toLoadRect, ↓ View.readCov_fill]
  frame_out
  try simp only [read_unread_whole]
  rw [canon_five]
  swap
  · refine View.cover_of_tiledL (s := S2x2x256x256) _ S1x1x256x256.size ?_ _
    sl_kernel_rfl
  canon_tiles x h
  all_goals idx_vars x
  all_goals unfold_payloads
  all_goals pointwise []
  all_goals
    obtain rfl : r = x2 := Fin.ext h2
    obtain rfl : e = x3 := Fin.ext h3
    obtain ⟨b, hb⟩ := b
    obtain ⟨g, hg⟩ := g
    dsimp only at h0 h1
    rcases (show b = 0 ∨ b = 1 by omega) with rfl | rfl <;> try (exfalso; omega)
    all_goals rcases (show g = 0 ∨ g = 1 by omega) with rfl | rfl <;> try (exfalso; omega)
    all_goals
      simp only [stepS, col, Nat.reduceMul, Nat.mul_zero, Nat.mul_one, Nat.zero_add]
      rfl

theorem rows_A (c : Dev nD) (t : Fin cfg0.N) (h0 : t.val % 64 = 0) (h1 : ¬t.val % 64 = 63) (b : Fin 2) (i : Fin 128)
    (p : Fin 4) (h : Fin 2) (l : Fin 128) (hl : l.val / 64 = h.val) :
    (outsAt0 m c t.val t.isLt).1 (ix3 b i (out p l)) = stepR (iblk m c 0 t) (iblk m c 1 t) (iblk m c 2 t) (iblk m c 4 t) (iblk m c 5 t)
      (iblk m c 9 t) (iblk m c 3 t) b i p h l := by
  rw [outsAt0_A m c t h0 h1]
  frame_open
  simp (disch := decide) only [↓ View.readCov_skip, ↓ View.readCov_cons_toLoadRect, ↓ View.readCov_fill]
  frame_out
  try simp only [read_unread_whole]
  canon_tiles x h
  all_goals idx_vars x
  all_goals unfold_payloads
  all_goals pointwise []
  all_goals
    obtain rfl : i = x1 := Fin.ext h1
    dsimp only [out] at h2
    obtain ⟨p, hp⟩ := p
    obtain ⟨b, hb⟩ := b
    obtain ⟨h, hh⟩ := h
    dsimp only at h0 h2 hl
    rcases (show p = 0 ∨ p = 1 ∨ p = 2 ∨ p = 3 by omega) with rfl | rfl | rfl | rfl <;> try (exfalso; omega)
    all_goals rcases (show b = 0 ∨ b = 1 by omega) with rfl | rfl <;> try (exfalso; omega)
    all_goals
      obtain rfl : l = x2 := Fin.ext (by omega)
      rcases (show h = 0 ∨ h = 1 by omega) with rfl | rfl
      · rw [select_lo _ _ _ (by omega)]
        simp only [stepR, col, grp, loc, head, out, wide, Nat.reduceMul, Nat.reduceMod, Nat.reduceDiv, Nat.reduceAdd, Nat.mul_zero,
          Nat.zero_add, Nat.zero_mod, Nat.add_zero, Nat.zero_div, ← Nat.add_assoc]
        rfl
      · rw [select_hi _ _ _ (by omega)]
        simp only [stepR, col, grp, loc, head, out, wide, Nat.reduceMul, Nat.reduceMod, Nat.reduceDiv, Nat.reduceAdd, Nat.mul_zero,
          Nat.zero_add, Nat.zero_mod, Nat.add_zero, Nat.zero_div, ← Nat.add_assoc]
        rfl

theorem state_B (c : Dev nD) (t : Fin cfg0.N) (h0 : ¬t.val % 64 = 0) (h1 : ¬t.val % 64 = 63) (b g : Fin 2) (r e : Fin 256) :
    (outsAt0 m c t.val t.isLt).2.2 (ix4 b g r e) = stepS (iblk m c 1 t) (iblk m c 2 t) (iblk m c 6 t) (iblk m c 7 t) (iblk m c 8 t)
      (outsAt0 m c (t.val - 1) (Nat.lt_of_le_of_lt (Nat.sub_le _ _) t.isLt)).2.2 b g r e := by
  rw [outsAt0_B m c t h0 h1]
  frame_open
  simp (disch := decide) only [↓ View.readCov_skip, ↓ View.readCov_cons_toLoadRect, ↓ View.readCov_fill]
  frame_out
  try simp only [read_unread_whole]
  canon_tiles x h
  all_goals idx_vars x
  all_goals unfold_payloads
  all_goals pointwise []
  all_goals
    obtain rfl : r = x2 := Fin.ext h2
    obtain rfl : e = x3 := Fin.ext h3
    obtain ⟨b, hb⟩ := b
    obtain ⟨g, hg⟩ := g
    dsimp only at h0 h1
    rcases (show b = 0 ∨ b = 1 by omega) with rfl | rfl <;> try (exfalso; omega)
    all_goals rcases (show g = 0 ∨ g = 1 by omega) with rfl | rfl <;> try (exfalso; omega)
    all_goals
      simp only [stepS, col, Nat.reduceMul, Nat.mul_zero, Nat.mul_one, Nat.zero_add]
      rfl

theorem rows_B (c : Dev nD) (t : Fin cfg0.N) (h0 : ¬t.val % 64 = 0) (h1 : ¬t.val % 64 = 63) (b : Fin 2) (i : Fin 128)
    (p : Fin 4) (h : Fin 2) (l : Fin 128) (hl : l.val / 64 = h.val) :
    (outsAt0 m c t.val t.isLt).1 (ix3 b i (out p l)) = stepR (iblk m c 0 t) (iblk m c 1 t) (iblk m c 2 t) (iblk m c 4 t) (iblk m c 5 t)
      (iblk m c 9 t) (outsAt0 m c (t.val - 1) (Nat.lt_of_le_of_lt (Nat.sub_le _ _) t.isLt)).2.2 b i p h l := by
  rw [outsAt0_B m c t h0 h1]
  frame_open
  simp (disch := decide) only [↓ View.readCov_skip, ↓ View.readCov_cons_toLoadRect, ↓ View.readCov_fill]
  frame_out
  try simp only [read_unread_whole]
  canon_tiles x h
  all_goals idx_vars x
  all_goals unfold_payloads
  all_goals pointwise []
  all_goals
    obtain rfl : i = x1 := Fin.ext h1
    dsimp only [out] at h2
    obtain ⟨p, hp⟩ := p
    obtain ⟨b, hb⟩ := b
    obtain ⟨h, hh⟩ := h
    dsimp only at h0 h2 hl
    rcases (show p = 0 ∨ p = 1 ∨ p = 2 ∨ p = 3 by omega) with rfl | rfl | rfl | rfl <;> try (exfalso; omega)
    all_goals rcases (show b = 0 ∨ b = 1 by omega) with rfl | rfl <;> try (exfalso; omega)
    all_goals
      obtain rfl : l = x2 := Fin.ext (by omega)
      rcases (show h = 0 ∨ h = 1 by omega) with rfl | rfl
      · rw [select_lo _ _ _ (by omega)]
        simp only [stepR, col, grp, loc, head, out, wide, Nat.reduceMul, Nat.reduceMod, Nat.reduceDiv, Nat.reduceAdd, Nat.mul_zero,
          Nat.zero_add, Nat.zero_mod, Nat.add_zero, Nat.zero_div, ← Nat.add_assoc]
        rfl
      · rw [select_hi _ _ _ (by omega)]
        simp only [stepR, col, grp, loc, head, out, wide, Nat.reduceMul, Nat.reduceMod, Nat.reduceDiv, Nat.reduceAdd, Nat.mul_zero,
          Nat.zero_add, Nat.zero_mod, Nat.add_zero, Nat.zero_div, ← Nat.add_assoc]
        rfl

theorem state_C (c : Dev nD) (t : Fin cfg0.N) (h0 : ¬t.val % 64 = 0) (h1 : t.val % 64 = 63) (b g : Fin 2) (r e : Fin 256) :
    (outsAt0 m c t.val t.isLt).2.2 (ix4 b g r e) = stepS (iblk m c 1 t) (iblk m c 2 t) (iblk m c 6 t) (iblk m c 7 t) (iblk m c 8 t)
      (outsAt0 m c (t.val - 1) (Nat.lt_of_le_of_lt (Nat.sub_le _ _) t.isLt)).2.2 b g r e := by
  rw [outsAt0_C m c t h0 h1]
  frame_open
  simp (disch := decide) only [↓ View.readCov_skip, ↓ View.readCov_cons_toLoadRect, ↓ View.readCov_fill]
  frame_out
  try simp only [read_unread_whole]
  canon_tiles x h
  all_goals idx_vars x
  all_goals unfold_payloads
  all_goals pointwise []
  all_goals
    obtain rfl : r = x2 := Fin.ext h2
    obtain rfl : e = x3 := Fin.ext h3
    obtain ⟨b, hb⟩ := b
    obtain ⟨g, hg⟩ := g
    dsimp only at h0 h1
    rcases (show b = 0 ∨ b = 1 by omega) with rfl | rfl <;> try (exfalso; omega)
    all_goals rcases (show g = 0 ∨ g = 1 by omega) with rfl | rfl <;> try (exfalso; omega)
    all_goals
      simp only [stepS, col, Nat.reduceMul, Nat.mul_zero, Nat.mul_one, Nat.zero_add]
      rfl

theorem rows_C (c : Dev nD) (t : Fin cfg0.N) (h0 : ¬t.val % 64 = 0) (h1 : t.val % 64 = 63) (b : Fin 2) (i : Fin 128)
    (p : Fin 4) (h : Fin 2) (l : Fin 128) (hl : l.val / 64 = h.val) :
    (outsAt0 m c t.val t.isLt).1 (ix3 b i (out p l)) = stepR (iblk m c 0 t) (iblk m c 1 t) (iblk m c 2 t) (iblk m c 4 t) (iblk m c 5 t)
      (iblk m c 9 t) (outsAt0 m c (t.val - 1) (Nat.lt_of_le_of_lt (Nat.sub_le _ _) t.isLt)).2.2 b i p h l := by
  rw [outsAt0_C m c t h0 h1]
  frame_open
  simp (disch := decide) only [↓ View.readCov_skip, ↓ View.readCov_cons_toLoadRect, ↓ View.readCov_fill]
  frame_out
  try simp only [read_unread_whole]
  canon_tiles x h
  all_goals idx_vars x
  all_goals unfold_payloads
  all_goals pointwise []
  all_goals
    obtain rfl : i = x1 := Fin.ext h1
    dsimp only [out] at h2
    obtain ⟨p, hp⟩ := p
    obtain ⟨b, hb⟩ := b
    obtain ⟨h, hh⟩ := h
    dsimp only at h0 h2 hl
    rcases (show p = 0 ∨ p = 1 ∨ p = 2 ∨ p = 3 by omega) with rfl | rfl | rfl | rfl <;> try (exfalso; omega)
    all_goals rcases (show b = 0 ∨ b = 1 by omega) with rfl | rfl <;> try (exfalso; omega)
    all_goals
      obtain rfl : l = x2 := Fin.ext (by omega)
      rcases (show h = 0 ∨ h = 1 by omega) with rfl | rfl
      · rw [select_lo _ _ _ (by omega)]
        simp only [stepR, col, grp, loc, head, out, wide, Nat.reduceMul, Nat.reduceMod, Nat.reduceDiv, Nat.reduceAdd, Nat.mul_zero,
          Nat.zero_add, Nat.zero_mod, Nat.add_zero, Nat.zero_div, ← Nat.add_assoc]
        rfl
      · rw [select_hi _ _ _ (by omega)]
        simp only [stepR, col, grp, loc, head, out, wide, Nat.reduceMul, Nat.reduceMod, Nat.reduceDiv, Nat.reduceAdd, Nat.mul_zero,
          Nat.zero_add, Nat.zero_mod, Nat.add_zero, Nat.zero_div, ← Nat.add_assoc]
        rfl

/-- At the last point the state goes out. -/
theorem sout_C (c : Dev nD) (t : Fin cfg0.N) (h0 : ¬t.val % 64 = 0) (h1 : t.val % 64 = 63) :
    (outsAt0 m c t.val t.isLt).2.1 = (outsAt0 m c t.val t.isLt).2.2 := by
  rw [outsAt0_C m c t h0 h1]
  frame_open
  simp (disch := decide) only [↓ View.readCov_skip, ↓ View.readCov_cons_toLoadRect, ↓ View.readCov_fill]
  frame_out
  try simp only [read_unread_whole]
  rw [View.readCov_eq_canon']
  exact View.ld_unit_lit (S := S2x2x256x256) _ (View.canon _) (by decide)

end Cert.KernelIdeal.Body
-- ==== Proof.Literals.lean ====
module

public import proofs.«01_k».proof.KernelIdeal
public import Mathlib.Tactic.IntervalCases

@[expose] public section

set_option maxRecDepth 16384

noncomputable section

/-!
The constant tables of the host code, entry by entry: the block mask, the four heads' column masks, and the four row masks that take the
packed state apart. Row `r` of a half holds feature `32 * (r / 128) + r % 32` of that half's head `(r % 128) / 32`.
-/

namespace Cert.KernelIdeal.Literals

open Cert.KernelIdeal Idealize.ShloMosaic

set_option maxHeartbeats 4000000 in
/-- Four rows of the block mask at a time. -/
theorem mask_rows (k : Nat) (hk : k < 64) :
    ∀ r : Fin 4, ∀ c : Fin 256, lit0t ((4 * k + r.val) * 256 + c.val) = if (4 * k % 128) / 32 = c.val / 64 then 0x3F800000#32 else 0#32 := by
  interval_cases k <;> clear hk <;> decide +kernel

theorem mask_at (r c : Fin 256) :
    lit0 ⟨r.val * 256 + c.val, by omega⟩ = if (r.val % 128) / 32 = c.val / 64 then 0x3F800000#32 else 0#32 := by
  have h := mask_rows (r.val / 4) (by omega) ⟨r.val % 4, by omega⟩ c
  have e : 4 * (r.val / 4) + r.val % 4 = r.val := by omega
  have e' : 4 * (r.val / 4) % 128 / 32 = r.val % 128 / 32 := by omega
  simp only [e, e'] at h
  exact h

theorem heads_at : ∀ h : Fin 4, ∀ r : Fin 256, lit1 ⟨h.val * 256 + r.val, by omega⟩ = if (r.val % 128) / 32 = h.val then 0x3F80#16 else 0#16 := by
  decide +kernel

theorem rows0_at : ∀ r : Fin 256, lit2 r = if (r.val % 128) / 32 = 0 then 1#1 else 0#1 := by decide +kernel
theorem rows1_at : ∀ r : Fin 256, lit3 r = if (r.val % 128) / 32 = 1 then 1#1 else 0#1 := by decide +kernel
theorem rows2_at : ∀ r : Fin 256, lit4 r = if (r.val % 128) / 32 = 2 then 1#1 else 0#1 := by decide +kernel
theorem rows3_at : ∀ r : Fin 256, lit5 r = if (r.val % 128) / 32 = 3 then 1#1 else 0#1 := by decide +kernel

end Cert.KernelIdeal.Literals
-- ==== Proof.Tables.lean ====
module

public import proofs.«01_k».proof.Proof.Body
public import proofs.«01_k».proof.Proof.Retention
public import proofs.«01_k».proof.Proof.Literals
public import Idealize.ShloMosaic.Lib.StableHlo.ReadAt
public import Idealize.ShloMosaic.Lib.IdealHost

@[expose] public section

set_option maxRecDepth 16384

noncomputable section

/-!
What the kernel's windows hold at point `t`: chunk `t` of the queries, keys and values, and the tables of decays and head masks, which
stay in place.
-/

namespace Cert.KernelIdeal.Tables

open Cert.KernelIdeal Cert.KernelIdeal.Gen Idealize.ShloMosaic Idealize.ShloMosaic.TcCoe Idealize.SL.Sem
open Cert.Retention (hd rowHead rowFeat colHead colFeat)

variable (m : (ℓ : Loc nD τ sig) → Buf (Elt Ideal) ℓ) (c : Dev nD) (t : Fin cfg0.N)

theorem idx0 : win0_0.index t = ![0, t.val, 0] := by revert t; decide +kernel
theorem idx1 : win0_1.index t = ![0, t.val, 0] := by revert t; decide +kernel
theorem idx2 : win0_2.index t = ![0, t.val, 0] := by revert t; decide +kernel
theorem idx3 : win0_3.index t = ![0, 0, 0, 0] := by revert t; decide +kernel
theorem idx4 : win0_4.index t = ![0, 0, 0] := by revert t; decide +kernel
theorem idx5 : win0_5.index t = ![0, 0] := by revert t; decide +kernel
theorem idx6 : win0_6.index t = ![0, 0] := by revert t; decide +kernel
theorem idx7 : win0_7.index t = ![0, 0] := by revert t; decide +kernel
theorem idx8 : win0_8.index t = ![0, 0] := by revert t; decide +kernel
theorem idx9 : win0_9.index t = ![0, 0, 0] := by revert t; decide +kernel

/-- The arguments' windows hold chunk `t`'s rows. -/
theorem query_at (b : Fin 2) (i : Fin 128) (l : Fin 512) (n : Fin 8192) (hn : n.val = 128 * t.val + i.val) :
    iblk m c 0 t (ix3 b i l) = m (c.tc.loc main_arg0) (ix3 b n l) := by
  rw [← V_main_arg0 m c]
  blk_ext [iblk, V, idx0 t]

theorem key_at (b : Fin 2) (i : Fin 128) (l : Fin 512) (n : Fin 8192) (hn : n.val = 128 * t.val + i.val) :
    iblk m c 1 t (ix3 b i l) = m (c.tc.loc main_arg1) (ix3 b n l) := by
  rw [← V_main_arg1 m c]
  blk_ext [iblk, V, idx1 t]

theorem value_at (b : Fin 2) (i : Fin 128) (l : Fin 512) (n : Fin 8192) (hn : n.val = 128 * t.val + i.val) :
    iblk m c 2 t (ix3 b i l) = m (c.tc.loc main_arg2) (ix3 b n l) := by
  rw [← V_main_arg2 m c]
  blk_ext [iblk, V, idx2 t]

/-- The state the kernel starts from is zero. -/
theorem start_at (b g : Fin 2) (r e : Fin 256) : iblk m c 3 t (ix4 b g r e) = (0 : EReal) := by
  have h : iblk m c 3 t (ix4 b g r e) = V m c main_v62 (ix4 b g r e) := by blk_ext [iblk, V, idx3 t]
  rw [h]; unfold V
  after_reads_at

theorem row_lt (i : Fin 128) (x y : EReal) : Scalar.select (IntOp.cmpi CmpIPredicate.slt (BitVec.ofNat 32 i.val) 128#32) x y = x := by
  have : IntOp.cmpi CmpIPredicate.slt (BitVec.ofNat 32 i.val) 128#32 = 1#1 := by revert i; decide
  rw [this]; rfl

theorem decay_at (h : Fin 8) (i j : Fin 128) : iblk m c 4 t (ix3 h i j) = Retention.Dm h i j := by
  have e : iblk m c 4 t (ix3 h i j) = V m c main_v33 (ix3 h i j) := by blk_ext [iblk, V, idx4 t]
  rw [e]; unfold V
  after_reads_at
  simp only [id_eq]
  pointwise []
  rw [row_lt]
  rfl

theorem queryDecay_at (i : Fin 128) (l : Fin 512) : iblk m c 5 t (ix2 i l) = Retention.Qd i ⟨l.val / 64, by omega⟩ := by
  have e : iblk m c 5 t (ix2 i l) = V m c main_v59 (ix2 i l) := by blk_ext [iblk, V, idx5 t]
  rw [e]; unfold V
  after_reads_at
  pointwise []
  rfl

theorem keyDecay_at (j : Fin 128) (l : Fin 512) : iblk m c 6 t (ix2 j l) = Retention.Kd j ⟨l.val / 64, by omega⟩ := by
  have e : iblk m c 6 t (ix2 j l) = V m c main_v61 (ix2 j l) := by blk_ext [iblk, V, idx6 t]
  rw [e]; unfold V
  after_reads_at
  simp only [id_eq]
  pointwise []
  rw [row_lt]
  rfl

theorem chunkDecay_at (l : Fin 512) : iblk m c 7 t (ix2 0 l) = Retention.Gc ⟨l.val / 64, by omega⟩ := by
  have e : iblk m c 7 t (ix2 0 l) = V m c main_v57 (ix2 0 l) := by blk_ext [iblk, V, idx7 t]
  rw [e]; unfold V
  after_reads_at
  pointwise []
  rfl

/-- The block mask: one where row and column belong to one head. -/
theorem mask_at (r e : Fin 256) : iblk m c 8 t (ix2 r e) = (if rowHead r = colHead e then (1 : EReal) else 0) := by
  have h : iblk m c 8 t (ix2 r e) = V m c main_cst (ix2 r e) := by blk_ext [iblk, V, idx8 t]
  rw [h]; unfold V
  after_reads_at
  have hi : S256x256.rowMajor (ix2 r e) = (⟨r.val * 256 + e.val, by omega⟩ : Fin 65536) := Fin.ext (Shape.rowMajor_val_two _)
  have ht := Literals.mask_at r e
  rw [← hi] at ht
  refine (congrArg (Ideal.ofBits FTy.f32) ht).trans ?_
  by_cases hc : r.val % 128 / 32 = e.val / 64
  · rw [if_pos hc, if_pos (Fin.ext hc)]; exact Ideal.ofBits_one_f32
  · rw [if_neg hc, if_neg fun h => hc (congrArg Fin.val h)]; exact Ideal.ofBits_zero_f32

/-- The heads' row masks. -/
theorem heads_at (a : Fin 4) (r : Fin 256) : iblk m c 9 t (ix3 a 0 r) = (if rowHead r = a then (1 : EReal) else 0) := by
  have h : iblk m c 9 t (ix3 a 0 r) = V m c main_cst_0 (ix3 a 0 r) := by blk_ext [iblk, V, idx9 t]
  rw [h]; unfold V
  after_reads_at
  have hi : S4x1x256.rowMajor (ix3 a 0 r) = (⟨a.val * 256 + r.val, by omega⟩ : Fin 1024) :=
    Fin.ext ((Shape.rowMajor_val_three _).trans (by show (a.val * 1 + 0) * 256 + r.val = a.val * 256 + r.val; omega))
  have ht := Literals.heads_at a r
  rw [← hi] at ht
  refine (congrArg (Ideal.ofBits FTy.bf16) ht).trans ?_
  by_cases hc : r.val % 128 / 32 = a.val
  · rw [if_pos hc, if_pos (Fin.ext hc)]; exact Ideal.ofBits_one_bf16
  · rw [if_neg hc, if_neg fun h => hc (congrArg Fin.val h)]; exact Ideal.ofBits_zero_bf16

end Cert.KernelIdeal.Tables
-- ==== Proof.Chunks.lean ====
module

public import proofs.«01_k».proof.Proof.Tables

@[expose] public section

set_option maxRecDepth 16384

noncomputable section

/-!
Chunk by chunk: what point `t` leaves in the packed state and in its result rows is the recurrence's.
-/

namespace Cert.KernelIdeal.Chunks

open Cert.KernelIdeal Cert.KernelIdeal.Gen Cert.KernelIdeal.Body Cert.KernelIdeal.Tables
open Idealize.ShloMosaic Idealize.ShloMosaic.TcCoe Idealize.SL.Sem
open Cert.Retention (Rows feats lanes hd rowHead rowFeat colHead colFeat pack state rows)

variable (m : (ℓ : Loc nD τ sig) → Buf (Elt Ideal) ℓ) (c : Dev nD)

/-- The kernel's queries, keys and values by chunk, head and feature. -/
def qs : Rows := feats (m (c.tc.loc main_arg0))
def ks : Rows := feats (m (c.tc.loc main_arg1))
def vs : Rows := lanes (m (c.tc.loc main_arg2))

theorem point_lt (t : Fin cfg0.N) : t.val < 64 := N_0 ▸ t.isLt
/-- The chunk of point `t`. -/
def chunk (t : Fin cfg0.N) : Fin 64 := ⟨t.val, point_lt t⟩

theorem query_row (t : Fin cfg0.N) (b g : Fin 2) (i : Fin 128) (r : Fin 256) :
    iblk m c 0 t (ix3 b i (col g r)) = qs m c b (chunk t) i (hd g (rowHead r)) (rowFeat r) := by
  have ht := point_lt t
  rw [query_at m c t b i (col g r) ⟨t.val * 128 + i.val, by omega⟩ (by show t.val * 128 + i.val = _; omega)]
  exact congrArg _ (congrArg (ix3 b _) (Fin.ext (by simp only [col, hd, rowHead, rowFeat]; omega)))

theorem key_row (t : Fin cfg0.N) (b g : Fin 2) (i : Fin 128) (r : Fin 256) :
    iblk m c 1 t (ix3 b i (col g r)) = ks m c b (chunk t) i (hd g (rowHead r)) (rowFeat r) := by
  have ht := point_lt t
  rw [key_at m c t b i (col g r) ⟨t.val * 128 + i.val, by omega⟩ (by show t.val * 128 + i.val = _; omega)]
  exact congrArg _ (congrArg (ix3 b _) (Fin.ext (by simp only [col, hd, rowHead, rowFeat]; omega)))

theorem value_row (t : Fin cfg0.N) (b g : Fin 2) (i : Fin 128) (e : Fin 256) :
    iblk m c 2 t (ix3 b i (col g e)) = vs m c b (chunk t) i (hd g (colHead e)) (colFeat e) := by
  have ht := point_lt t
  rw [value_at m c t b i (col g e) ⟨t.val * 128 + i.val, by omega⟩ (by show t.val * 128 + i.val = _; omega)]
  exact congrArg _ (congrArg (ix3 b _) (Fin.ext (by simp only [col, hd, colHead, colFeat]; omega)))

theorem head_col (g : Fin 2) (e : Fin 256) (hl) : (⟨(col g e).val / 64, hl⟩ : Fin 8) = hd g (colHead e) :=
  Fin.ext (by simp only [col, hd, colHead]; omega)

theorem out_eq (p : Fin 4) (l : Fin 128) : out p l = col (grp p) (wide p l) := Fin.ext (by simp only [out, col, grp, wide]; omega)
theorem head_eq (p : Fin 4) (h : Fin 2) : head p h = hd (grp p) (loc p h) := Fin.ext (by simp only [head, hd, grp, loc]; omega)
theorem colHead_wide (p : Fin 4) (h : Fin 2) (l : Fin 128) (hl : l.val / 64 = h.val) : colHead (wide p l) = loc p h :=
  Fin.ext (by simp only [colHead, wide, loc]; omega)

/-- One point's state over the packed state of the chunks before it. -/
theorem stepS_pack (t : Fin cfg0.N) (S : FVec Ideal S2x2x256x256 .f32)
    (hS : ∀ b g r e, S (ix4 b g r e) = pack (state (ks m c) (vs m c) t.val) b g r e) (b g : Fin 2) (r e : Fin 256) :
    stepS (iblk m c 1 t) (iblk m c 2 t) (iblk m c 6 t) (iblk m c 7 t) (iblk m c 8 t) S b g r e
      = pack (state (ks m c) (vs m c) (t.val + 1)) b g r e := by
  have hc : chunk t = Fin.ofNat 64 t.val := Fin.ext (Nat.mod_eq_of_lt (point_lt t)).symm
  rw [← Retention.pack_step, ← hc]
  simp only [stepS, hS, key_row, value_row, keyDecay_at, chunkDecay_at, mask_at, head_col]

/-- One point's result rows over it. -/
theorem stepR_rows (t : Fin cfg0.N) (S : FVec Ideal S2x2x256x256 .f32)
    (hS : ∀ b g r e, S (ix4 b g r e) = pack (state (ks m c) (vs m c) t.val) b g r e) (b : Fin 2) (i : Fin 128) (p : Fin 4) (h : Fin 2)
    (l : Fin 128) (hl : l.val / 64 = h.val) :
    stepR (iblk m c 0 t) (iblk m c 1 t) (iblk m c 2 t) (iblk m c 4 t) (iblk m c 5 t) (iblk m c 9 t) S b i p h l
      = rows (qs m c) (ks m c) (vs m c) (chunk t) b i (hd (grp p) (loc p h)) (colFeat (wide p l)) := by
  have hc := colHead_wide p h l hl
  rw [← Retention.pack_rows _ _ _ _ _ _ _ _ _ hc]
  simp only [stepR, hS, query_row, key_row, value_row, decay_at, queryDecay_at, heads_at, out_eq, head_eq, head_col, hc]
  rfl

/-- What the scratch holds after point `t`: the packed state of the chunks so far. -/
theorem state_after : ∀ (n : Nat) (hn : n < cfg0.N) (b g : Fin 2) (r e : Fin 256),
    (outsAt0 m c n hn).2.2 (ix4 b g r e) = pack (state (ks m c) (vs m c) (n + 1)) b g r e
  | 0, hn, b, g, r, e => by
    rw [state_A m c ⟨0, hn⟩ rfl (show ¬0 % 64 = 63 by decide)]
    exact stepS_pack m c ⟨0, hn⟩ _ (fun b g r e => by rw [start_at]; simp [pack, state]) b g r e
  | n + 1, hn, b, g, r, e => by
    have hN : n + 1 < 64 := point_lt ⟨n + 1, hn⟩
    have h0 : ¬(n + 1) % 64 = 0 := by omega
    have IH := state_after n (Nat.lt_of_succ_lt hn)
    by_cases h1 : (n + 1) % 64 = 63
    · rw [state_C m c ⟨n + 1, hn⟩ h0 h1]
      exact stepS_pack m c ⟨n + 1, hn⟩ _ IH b g r e
    · rw [state_B m c ⟨n + 1, hn⟩ h0 h1]
      exact stepS_pack m c ⟨n + 1, hn⟩ _ IH b g r e

/-- What point `t` leaves in its result block. -/
theorem rows_after (t : Fin cfg0.N) (b : Fin 2) (i : Fin 128) (p : Fin 4) (h : Fin 2) (l : Fin 128) (hl : l.val / 64 = h.val) :
    (outsAt0 m c t.val t.isLt).1 (ix3 b i (out p l))
      = rows (qs m c) (ks m c) (vs m c) (chunk t) b i (hd (grp p) (loc p h)) (colFeat (wide p l)) := by
  by_cases h0 : t.val % 64 = 0
  · have ht : t.val = 0 := by have := point_lt t; omega
    rw [rows_A m c t h0 (by omega) b i p h l hl]
    exact stepR_rows m c t _ (fun b g r e => by rw [start_at, ht]; simp [pack, state]) b i p h l hl
  · have IH := state_after m c (t.val - 1) (Nat.lt_of_le_of_lt (Nat.sub_le _ _) t.isLt)
    rw [Nat.sub_add_cancel (by omega)] at IH
    by_cases h1 : t.val % 64 = 63
    · rw [rows_C m c t h0 h1 b i p h l hl]
      exact stepR_rows m c t _ IH b i p h l hl
    · rw [rows_B m c t h0 h1 b i p h l hl]
      exact stepR_rows m c t _ IH b i p h l hl

end Cert.KernelIdeal.Chunks
-- ==== Proof.Arrays.lean ====
module

public import proofs.«01_k».proof.Proof.Chunks

@[expose] public section

set_option maxRecDepth 16384

noncomputable section

/-!
The two arrays the kernel leaves: the result rows, and the packed state after the last chunk.
-/

namespace Cert.KernelIdeal.Arrays

open Cert.KernelIdeal Cert.KernelIdeal.Gen Cert.KernelIdeal.Body Cert.KernelIdeal.Chunks
open Idealize.ShloMosaic Idealize.ShloMosaic.TcCoe Idealize.SL.Sem
open Cert.Retention (hd colFeat pack state rows)

variable (m : (ℓ : Loc nD τ sig) → Buf (Elt Ideal) ℓ) (c : Dev nD)

theorem idx10 (t : Fin cfg0.N) : win0_10.index t = ![0, t.val, 0] := by revert t; decide +kernel
theorem idx11 (t : Fin cfg0.N) : win0_11.index t = ![0, 0, 0, 0] := by revert t; decide +kernel

/-- Row `s`'s lane `l`. -/
def rowsOut : FVec Ideal S2x8192x512 .f32 := fun x =>
  rows (qs m c) (ks m c) (vs m c) ⟨(x 1).val / 128, by have : (x 1).val < 8192 := (x 1).isLt; omega⟩ (x 0)
    ⟨(x 1).val % 128, by omega⟩ ⟨(x 2).val / 64, by have : (x 2).val < 512 := (x 2).isLt; omega⟩ ⟨(x 2).val % 64, by omega⟩

/-- A block's lane, with the column pair, the pair's half and the lane of the pair it is. -/
theorem rows_block (t : Fin cfg0.N) (b : Fin 2) (i : Fin 128) (l : Fin 512) :
    (outsAt0 m c t.val t.isLt).1 (ix3 b i l)
      = rows (qs m c) (ks m c) (vs m c) (chunk t) b i ⟨l.val / 64, by omega⟩ ⟨l.val % 64, by omega⟩ := by
  have h := rows_after m c t b i ⟨l.val / 128, by omega⟩ ⟨l.val % 128 / 64, by omega⟩ ⟨l.val % 128, by omega⟩ rfl
  have e : out ⟨l.val / 128, by omega⟩ ⟨l.val % 128, by omega⟩ = l := Fin.ext (by simp only [out]; omega)
  have e1 : hd (grp ⟨l.val / 128, by omega⟩) (loc ⟨l.val / 128, by omega⟩ ⟨l.val % 128 / 64, by omega⟩) = ⟨l.val / 64, by omega⟩ :=
    Fin.ext (by simp only [hd, grp, loc]; omega)
  have e2 : colFeat (wide ⟨l.val / 128, by omega⟩ ⟨l.val % 128, by omega⟩) = ⟨l.val % 64, by omega⟩ :=
    Fin.ext (by simp only [colFeat, wide]; omega)
  rw [e, e1, e2] at h
  exact h

theorem rows_array : (dats m 0 c).arrAt 10 (cfgs 0).N = rowsOut m c := by
  refine (dats m 0 c).arrAt_eq_of_covers 10 _ (by decide +kernel) fun t hf y => ?_
  blk_simp
  rw [after0_10]
  idx_vars y
  have ht := point_lt t
  rw [rows_block]
  have e : ((View.whole main_v63_0).slice (win0_10.rect t)).emb (ix3 y0 y1 y2) = ix3 y0 ⟨128 * t.val + y1.val, by omega⟩ y2 := by
    funext a
    fin_cases a <;> exact Fin.ext (by blk_simp [idx10 t]; simp; try omega)
  rw [e]
  unfold rowsOut
  have e1 : (⟨(128 * t.val + y1.val) / 128, by omega⟩ : Fin 64) = chunk t := Fin.ext (by simp only [chunk]; omega)
  have e2 : (⟨(128 * t.val + y1.val) % 128, by omega⟩ : Fin 128) = y1 := Fin.ext (by simp only []; omega)
  show _ = rows _ _ _ ⟨(128 * t.val + y1.val) / 128, _⟩ y0 ⟨(128 * t.val + y1.val) % 128, _⟩ ⟨y2.val / 64, _⟩ ⟨y2.val % 64, _⟩
  rw [e1, e2]

def lastPoint : Fin cfg0.N := ⟨63, lt_of_lt_of_eq (by decide : 63 < 64) N_0.symm⟩

/-- The packed state the kernel leaves. -/
def stateOut : FVec Ideal S2x2x256x256 .f32 := fun x => pack (state (ks m c) (vs m c) 64) (x 0) (x 1) (x 2) (x 3)

theorem state_array : (dats m 0 c).arrAt 11 (cfgs 0).N = stateOut m c := by
  refine (dats m 0 c).arrAt_eq_of_after_last 11 lastPoint (by decide +kernel) _ fun j => ?_
  blk_simp
  rw [after0_11, sout_C m c lastPoint (show ¬63 % 64 = 0 by decide) (show 63 % 64 = 63 by decide)]
  have h : ∀ x : S2x2x256x256.Idx, (outsAt0 m c 63 lastPoint.isLt).2.2 x = stateOut m c x := fun x => by
    idx_vars x
    exact state_after m c 63 _ _ _ _ _
  exact h j

end Cert.KernelIdeal.Arrays
-- ==== Proof.Tail.lean ====
module

public import proofs.«01_k».proof.Proof.Arrays
public import Idealize.ShloMosaic.Lib.StableHlo.ReadAt

@[expose] public section

set_option maxRecDepth 16384

noncomputable section

/-!
The host lines after the kernel take the packed state apart: of head `a`'s rows they keep column block `a`, the other heads' rows are
masked to zero.
-/

namespace Cert.KernelIdeal.Tail

open Cert.KernelIdeal Cert.KernelIdeal.Gen
open Idealize.ShloMosaic Idealize.ShloMosaic.TcCoe Idealize.SL.Sem Idealize.ShloMosaic.StableHlo
open Cert.Retention (hd rowHead rowFeat colHead colFeat rowOf pack state)

/-- A column block of the packed state, at a row of head `a`, masked to head `k`'s rows. -/
theorem masked (S : Fin 2 → Fin 8 → Fin 64 → Fin 64 → EReal) (b g : Fin 2) (a k : Fin 4) (d e : Fin 64) (z : Fin 256)
    (hz : z.val = 64 * k.val + e.val) :
    Scalar.select (if rowHead (rowOf a d) = k then 1#1 else 0#1) (pack S b g (rowOf a d) z) (0 : EReal)
      = if a = k then S b (hd g a) d e else 0 := by
  have hk : colHead z = k := Fin.ext (by simp only [colHead]; omega)
  have he : colFeat z = e := Fin.ext (by simp only [colFeat]; omega)
  rw [Retention.rowHead_rowOf]
  unfold pack
  rw [Retention.rowHead_rowOf, Retention.rowFeat_rowOf, hk, he]
  by_cases h : a = k
  · simp only [if_pos h]; rfl
  · simp only [if_neg h]; rfl

/-- Of four heads' contributions one is left. -/
theorem one_head (a : Fin 4) (x : EReal) :
    (((if a = 0 then x else 0) + (if a = 1 then x else 0)) + (if a = 2 then x else 0)) + (if a = 3 then x else 0) = x := by
  have h : a = 0 ∨ a = 1 ∨ a = 2 ∨ a = 3 := by revert a; decide
  rcases h with rfl | rfl | rfl | rfl <;> simp

/-- The packed row of head `h`'s feature `d`, as the host lines' reshapes put it. -/
def place (h : Fin 8) (d : Fin 64) : Fin 256 := ⟨d.val / 32 * 128 + h.val % 4 * 32 + d.val % 32, by omega⟩
theorem place_eq (h : Fin 8) (d : Fin 64) : place h d = rowOf ⟨h.val % 4, by omega⟩ d := Fin.ext (by simp only [place, rowOf]; omega)

variable (W : Valuation τ sig (Elt Ideal))

/-- The four masked column blocks together, at head `h`'s row `d`. -/
theorem together (S : Fin 2 → Fin 8 → Fin 64 → Fin 64 → EReal)
    (hS : ∀ b g r e, W (Proc.devRef .tc main_v63_1) (ix4 b g r e) = pack S b g r e)
    (h0 : ∀ r : Fin 256, W (Proc.devRef .tc main_v0) (ix4 0 0 r 0) = if rowHead r = 0 then 1#1 else 0#1)
    (h1 : ∀ r : Fin 256, W (Proc.devRef .tc main_v1) (ix4 0 0 r 0) = if rowHead r = 1 then 1#1 else 0#1)
    (h2 : ∀ r : Fin 256, W (Proc.devRef .tc main_v2) (ix4 0 0 r 0) = if rowHead r = 2 then 1#1 else 0#1)
    (h3 : ∀ r : Fin 256, W (Proc.devRef .tc main_v3) (ix4 0 0 r 0) = if rowHead r = 3 then 1#1 else 0#1)
    (b : Fin 2) (h : Fin 8) (d e : Fin 64) :
    ((((Scalar.select (W (Proc.devRef .tc main_v0) (ix4 0 0 (place h d) 0))
          (W (Proc.devRef .tc main_v63_1) (ix4 b ⟨h.val / 4, by omega⟩ (place h d) ⟨e.val, by omega⟩)) 0 : EReal)
        + (Scalar.select (W (Proc.devRef .tc main_v1) (ix4 0 0 (place h d) 0))
          (W (Proc.devRef .tc main_v63_1) (ix4 b ⟨h.val / 4, by omega⟩ (place h d) ⟨64 + e.val, by omega⟩)) 0 : EReal))
        + (Scalar.select (W (Proc.devRef .tc main_v2) (ix4 0 0 (place h d) 0))
          (W (Proc.devRef .tc main_v63_1) (ix4 b ⟨h.val / 4, by omega⟩ (place h d) ⟨128 + e.val, by omega⟩)) 0 : EReal))
        + (Scalar.select (W (Proc.devRef .tc main_v3) (ix4 0 0 (place h d) 0))
          (W (Proc.devRef .tc main_v63_1) (ix4 b ⟨h.val / 4, by omega⟩ (place h d) ⟨192 + e.val, by omega⟩)) 0 : EReal))
      = S b h d e := by
  have hh : hd ⟨h.val / 4, by omega⟩ ⟨h.val % 4, by omega⟩ = h := Fin.ext (by simp only [hd]; omega)
  simp only [h0, h1, h2, h3, hS, place_eq]
  rw [masked _ _ _ _ 0 d e _ (by simp), masked _ _ _ _ 1 d e _ (by simp), masked _ _ _ _ 2 d e _ (by simp),
    masked _ _ _ _ 3 d e _ (by simp), hh]
  exact one_head _ _

theorem tail_at (S : Fin 2 → Fin 8 → Fin 64 → Fin 64 → EReal)
    (hS : ∀ b g r e, W (Proc.devRef .tc main_v63_1) (ix4 b g r e) = pack S b g r e)
    (h0 : ∀ r : Fin 256, W (Proc.devRef .tc main_v0) (ix4 0 0 r 0) = if rowHead r = 0 then 1#1 else 0#1)
    (h1 : ∀ r : Fin 256, W (Proc.devRef .tc main_v1) (ix4 0 0 r 0) = if rowHead r = 1 then 1#1 else 0#1)
    (h2 : ∀ r : Fin 256, W (Proc.devRef .tc main_v2) (ix4 0 0 r 0) = if rowHead r = 2 then 1#1 else 0#1)
    (h3 : ∀ r : Fin 256, W (Proc.devRef .tc main_v3) (ix4 0 0 r 0) = if rowHead r = 3 then 1#1 else 0#1)
    (b : Fin 2) (h : Fin 8) (d e : Fin 64) :
    after ([hostOps1, hostOps1_1, hostOps1_2, hostOps1_3, hostOps1_4, hostOps1_5, hostOps1_6, hostOps1_7, hostOps1_8] :
      List (List (HloOp τ sig (Elt Ideal)))).flatten W (Proc.devRef .tc main_v79) (ix4 b h d e) = S b h d e := by
  simp only [List.flatten_cons, List.flatten_nil, List.append_nil, List.cons_append, List.nil_append]
  after_reads_at
  simp only [id_eq]
  pointwise []
  exact together W S hS h0 h1 h2 h3 b h d e

variable (m : (ℓ : Loc nD τ sig) → Buf (Elt Ideal) ℓ) (c : Dev nD)

/-- The row masks the host lines use, entry by entry. -/
theorem mask_of (L : Fin 256 → BitVec 1) (k : Fin 4) (hL : ∀ r : Fin 256, L r = if r.val % 128 / 32 = k.val then 1#1 else 0#1) (r : Fin 256) :
    L (S256.rowMajor (ix1 r)) = if rowHead r = k then 1#1 else 0#1 := by
  have hi : (S256.rowMajor (ix1 r) : Fin 256) = r := Fin.ext (Shape.rowMajor_val_one _)
  refine (congrArg L hi).trans ((hL r).trans ?_)
  by_cases h : r.val % 128 / 32 = k.val
  · rw [if_pos h, if_pos (Fin.ext h)]
  · rw [if_neg h, if_neg fun e => h (congrArg Fin.val e)]

theorem mask0 (r : Fin 256) : V m c main_v0 (ix4 0 0 r 0) = if rowHead r = 0 then 1#1 else 0#1 := by
  unfold V
  after_reads_at
  exact mask_of lit2 0 Literals.rows0_at r

theorem mask1 (r : Fin 256) : V m c main_v1 (ix4 0 0 r 0) = if rowHead r = 1 then 1#1 else 0#1 := by
  unfold V
  after_reads_at
  exact mask_of lit3 1 Literals.rows1_at r

theorem mask2 (r : Fin 256) : V m c main_v2 (ix4 0 0 r 0) = if rowHead r = 2 then 1#1 else 0#1 := by
  unfold V
  after_reads_at
  exact mask_of lit4 2 Literals.rows2_at r

theorem mask3 (r : Fin 256) : V m c main_v3 (ix4 0 0 r 0) = if rowHead r = 3 then 1#1 else 0#1 := by
  unfold V
  after_reads_at
  exact mask_of lit5 3 Literals.rows3_at r

theorem entry_eq (b : Ref sig .tc) (hb : ∀ w, Pipeline.arrRef (cfgs 0).spec w ≠ b) :
    Pipeline.withArrays (cfgs 0).spec c (V0 m c) (fun w => (dats m 0 c).arrAt w (cfgs 0).N) (Proc.devRef .tc b) = V m c b :=
  Pipeline.withArrays_of_ne _ _ _ _ b hb

/-- The state the program leaves. -/
theorem state_result (b : Fin 2) (h : Fin 8) (d e : Fin 64) :
    Pipeline.afterTail₀ cfgs (dats m) 0 (V0 m)
        [hostOps1, hostOps1_1, hostOps1_2, hostOps1_3, hostOps1_4, hostOps1_5, hostOps1_6, hostOps1_7, hostOps1_8] c main_v79 (ix4 b h d e)
      = state (Chunks.ks m c) (Chunks.vs m c) 64 b h d e := by
  unfold Pipeline.afterTail₀
  refine tail_at _ _ (fun b g r e => ?_) (fun r => ?_) (fun r => ?_) (fun r => ?_) (fun r => ?_) b h d e
  · have ha := Pipeline.withArrays_arr (cfgs 0).spec (by decide) c (V0 m c) (fun w => (dats m 0 c).arrAt w (cfgs 0).N) 11
    exact (congrFun ha (ix4 b g r e)).trans (congrFun (Arrays.state_array m c) (ix4 b g r e))
  · rw [entry_eq m c main_v0 (by decide)]; exact mask0 m c r
  · rw [entry_eq m c main_v1 (by decide)]; exact mask1 m c r
  · rw [entry_eq m c main_v2 (by decide)]; exact mask2 m c r
  · rw [entry_eq m c main_v3 (by decide)]; exact mask3 m c r

end Cert.KernelIdeal.Tail
-- ==== Proof.Projection.lean ====
module

public import Idealize.ShloMosaic.Lib.Pointwise
public import Idealize.ShloMosaic.Lib.IdealHost

@[expose] public section

noncomputable section

/-!
The projection's mathematics over the extended reals: a token's row, normalized and modulated; its product with one column of the
weights; and what a factor of the weights, the rotation and the gates make of that.
-/

namespace Cert.Projection

open Idealize.ShloMosaic

/-- A row of features divided by its root mean square, times the norm's weights, scaled by one plus `s` and shifted by `b`. -/
def modulated (x g s b : Fin 1024 → EReal) (k : Fin 1024) : EReal :=
  x k * Ideal.rsqrt (Ideal.div (∑ l : Fin 1024, x l * x l) (Ideal.ofBits FTy.f32 0x44800000#32) + Ideal.ofBits FTy.f32 0x358637BD#32)
      * g k * (1 + s k) + b k

/-- The gates. -/
def silu (x : EReal) : EReal := x * Ideal.logistic x

/-- The angle by which token `n`'s frequency `f` of 32 is rotated. -/
def angle (n : Fin 8192) (f : Fin 32) : EReal :=
  FloatOps.sitofp (F := Ideal) FTy.f32 (BitVec.ofNat 32 n.val)
    * Ideal.pow (Ideal.ofBits FTy.f32 0x461C4000#32)
        (Ideal.div (-FloatOps.sitofp (F := Ideal) FTy.f32 (BitVec.ofNat 32 f.val)) (Ideal.ofBits FTy.f32 0x42000000#32))

/-- Where feature `j` of a grouped row stands in the heads' order: group, head of the group and frequency stay, and of a head's two
halves each group holds first all first halves, then all second ones. -/
def ungroup (j : Fin 512) : Fin 512 :=
  ⟨j.val / 256 * 256 + j.val / 32 % 4 * 64 + j.val / 128 % 2 * 32 + j.val % 32, by omega⟩

/-- The projection of one token's modulated row to column `q` of the weights. -/
def projected (x : Fin 2 → Fin 8192 → Fin 1024 → EReal) (s b : Fin 2 → Fin 1024 → EReal) (g : Fin 1024 → EReal)
    (w : Fin 1024 → Fin 6468 → EReal) (i : Fin 2) (n : Fin 8192) (q : Fin 6468) : EReal :=
  ∑ k : Fin 1024, modulated (x i n) g (s i) (b i) k * w k q

/-- Feature `j` of a grouped row whose columns of the projected row `p` begin at `o`, rotated by token `n`'s angle: of the head's two
halves the first turns into the second. -/
def turned (p : Fin 6468 → EReal) (o : ℕ) (ho : o ≤ 5000) (n : Fin 8192) (j : Fin 512) : EReal :=
  if j.val % 256 < 128 then
    p ⟨o + (j.val / 256 * 256 + j.val / 32 % 4 * 64 + j.val % 32), by omega⟩ * Ideal.cos (angle n ⟨j.val % 32, by omega⟩)
      - p ⟨o + (j.val / 256 * 256 + j.val / 32 % 4 * 64 + j.val % 32 + 32), by omega⟩ * Ideal.sin (angle n ⟨j.val % 32, by omega⟩)
  else
    p ⟨o + (j.val / 256 * 256 + j.val / 32 % 4 * 64 + j.val % 32), by omega⟩ * Ideal.sin (angle n ⟨j.val % 32, by omega⟩)
      + p ⟨o + (j.val / 256 * 256 + j.val / 32 % 4 * 64 + j.val % 32 + 32), by omega⟩ * Ideal.cos (angle n ⟨j.val % 32, by omega⟩)

/-- A factor that is neither negative nor infinite passes out of a sum. -/
theorem sum_scaled {n : ℕ} (f : Fin n → EReal) (c : EReal) (h0 : 0 ≤ c) (h1 : c ≠ ⊤) : ∑ k, f k * c = (∑ k, f k) * c := by
  have hb : c ≠ ⊥ := fun h => by rw [h] at h0; simp at h0
  lift c to ℝ using ⟨h1, hb⟩
  induction n with
  | zero => simp
  | succ n ih => rw [Fin.sum_univ_succ, Fin.sum_univ_succ, ih (fun k => f k.succ), EReal.right_distrib_of_nonneg_of_ne_top h0 h1]

/-- A factor of the weights is a factor of the product. -/
theorem product_scaled {n : ℕ} (h w : Fin n → EReal) (c : EReal) (h0 : 0 ≤ c) (h1 : c ≠ ⊤) :
    ∑ k, h k * (w k * c) = (∑ k, h k * w k) * c := by
  rw [← sum_scaled _ c h0 h1]
  exact Finset.sum_congr rfl fun k _ => (mul_assoc _ _ _).symm

/-- It passes out of a rotation too. -/
theorem rotated_scaled (a b p q c : EReal) (h0 : 0 ≤ c) (h1 : c ≠ ⊤) : a * c * p - b * c * q = (a * p - b * q) * c := by
  rw [mul_right_comm a, mul_right_comm b, EReal.sub_mul_of_nonneg_of_ne_top h0 h1]

theorem rotated_scaled' (a b p q c : EReal) (h0 : 0 ≤ c) (h1 : c ≠ ⊤) : a * c * p + b * c * q = (a * p + b * q) * c := by
  rw [mul_right_comm a, mul_right_comm b, EReal.right_distrib_of_nonneg_of_ne_top h0 h1]

/-- The two factors, of the queries and of the rotated keys, are positive numbers. -/
theorem query_factor : Ideal.ofBits FTy.f32 0x3E38AA3B#32 = ((12102203 / 67108864 : ℝ) : EReal) := by
  simp [Ideal.ofBits, Ideal.ieee, -EReal.coe_mul]; norm_num

theorem key_factor : Ideal.ofBits FTy.f32 0x3E000000#32 = ((1 / 8 : ℝ) : EReal) := by
  simp [Ideal.ofBits, Ideal.ieee, -EReal.coe_mul]; norm_num

theorem query_factor_nonneg : 0 ≤ Ideal.ofBits FTy.f32 0x3E38AA3B#32 := by
  rw [query_factor]; exact EReal.coe_nonneg.mpr (by norm_num)

theorem query_factor_ne_top : Ideal.ofBits FTy.f32 0x3E38AA3B#32 ≠ ⊤ := by rw [query_factor]; exact EReal.coe_ne_top _

theorem key_factor_nonneg : 0 ≤ Ideal.ofBits FTy.f32 0x3E000000#32 := by
  rw [key_factor]; exact EReal.coe_nonneg.mpr (by norm_num)

theorem key_factor_ne_top : Ideal.ofBits FTy.f32 0x3E000000#32 ≠ ⊤ := by rw [key_factor]; exact EReal.coe_ne_top _

end Cert.Projection

end
-- ==== Proof.ProjectionReference.lean ====
module

public import proofs.«01_k».proof.Proof.Projection
public import proofs.«01_k».proof.Proof.Gen.Reference2Ideal.Run
public import Idealize.ShloMosaic.Lib.IdealHost

@[expose] public section

set_option maxRecDepth 16384

noncomputable section

/-!
The reference projection's results, index by index, as the projected row's columns and what the factor, the rotation and the gates make
of them.
-/

namespace Cert.Reference2Ideal.Results

open Cert.Reference2Ideal Cert.Reference2Ideal.Gen Cert.Reference2Ideal.Value Idealize.ShloMosaic Idealize.ShloMosaic.TcCoe Idealize.SL.Sem

variable (m : (ℓ : Loc nD τ sig) → Buf (Elt Ideal) ℓ) (c : Dev nD)

/-- The tokens' modulated rows. -/
def hidden : FVec Ideal S2x8192x1024 .f32 :=
  addf (mulf (mulf (mulf (m ((c.tc : Thread nD τ).loc main_arg0)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (m ((c.tc : Thread nD τ).loc main_arg0)) (m ((c.tc : Thread nD τ).loc main_arg0))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (m ((c.tc : Thread nD τ).loc main_arg3))))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (m ((c.tc : Thread nD τ).loc main_arg1)))))) (broadcastInDim S2x8192x1024 ![0, 1, 2] bcast_S2x1x1024_S2x8192x1024_0_1_2 (broadcastInDim S2x1x1024 ![0, 2] bcast_S2x1024_S2x1x1024_0_2 (m ((c.tc : Thread nD τ).loc main_arg2))))

/-- Their product with the weights. -/
def product : FVec Ideal S2x8192x6468 .f32 :=
  Host.dotGeneral (φ₁ := .f32) (φ₂ := .f32) dot_S2x8192x1024_S1024x6468_S2x8192x6468_2_0_01_1_n_n none (hidden m c) (m ((c.tc : Thread nD τ).loc main_arg4))

/-- Its entries, from the arguments. -/
def entries : Fin 2 → Fin 8192 → Fin 6468 → EReal :=
  Projection.projected (fun i n k => m (c.tc.loc main_arg0) (ix3 i n k)) (fun i k => m (c.tc.loc main_arg1) (ix2 i k))
    (fun i k => m (c.tc.loc main_arg2) (ix2 i k)) (fun k => m (c.tc.loc main_arg3) (ix1 k)) (fun k q => m (c.tc.loc main_arg4) (ix2 k q))

theorem hidden_at (i : Fin 2) (n : Fin 8192) (k : Fin 1024) :
    hidden m c (ix3 i n k) = Projection.modulated (fun k => m (c.tc.loc main_arg0) (ix3 i n k)) (fun k => m (c.tc.loc main_arg3) (ix1 k))
      (fun k => m (c.tc.loc main_arg1) (ix2 i k)) (fun k => m (c.tc.loc main_arg2) (ix2 i k)) k := by
  unfold hidden Projection.modulated
  pointwise []

theorem product_at (i : Fin 2) (n : Fin 8192) (q : Fin 6468) : product m c (ix3 i n q) = entries m c i n q := by
  unfold product entries Projection.projected
  simp only [← hidden_at]
  pointwise []

theorem key_at (i : Fin 2) (n : Fin 8192) (h : Fin 8) (d : Fin 64) :
    shapeCast S2x8192x8x64 (extractStridedSlice S2x8192x512 ![0, 0, 512] (product m c) slices_S2x8192x6468_S2x8192x512_0_0_512)
      shapeCasts_S2x8192x512_S2x8192x8x64 (ix4 i n h d) = entries m c i n ⟨512 + (h.val * 64 + d.val), by omega⟩ := by
  rw [← product_at]
  pointwise []

theorem value_at (i : Fin 2) (n : Fin 8192) (h : Fin 8) (d : Fin 64) :
    shapeCast S2x8192x8x64 (extractStridedSlice S2x8192x512 ![0, 0, 1024] (product m c) slices_S2x8192x6468_S2x8192x512_0_0_1024)
      shapeCasts_S2x8192x512_S2x8192x8x64 (ix4 i n h d) = entries m c i n ⟨1024 + (h.val * 64 + d.val), by omega⟩ := by
  rw [← product_at]
  pointwise []

theorem low_key_at (i : Fin 2) (n : Fin 8192) (j : Fin 512) :
    truncf .bf16 (extractStridedSlice S2x8192x512 ![0, 0, 512] (product m c) slices_S2x8192x6468_S2x8192x512_0_0_512) bitsLt_bf16_f32
      (ix3 i n j) = entries m c i n ⟨512 + j.val, by omega⟩ := by
  rw [← product_at]
  pointwise []

theorem slab_at (i : Fin 2) (s : Fin 64) (j : Fin 512) (r : Fin 128) :
    truncf .bf16 (transpose S2x64x512x128 [0, 1, 3, 2] (shapeCast S2x64x128x512 (extractStridedSlice S2x8192x512 ![0, 0, 1024] (product m c)
      slices_S2x8192x6468_S2x8192x512_0_0_1024) shapeCasts_S2x8192x512_S2x64x128x512) transposes_S2x64x128x512_S2x64x512x128_0_1_3_2)
      bitsLt_bf16_f32 (ix4 i s j r) = entries m c i ⟨s.val * 128 + r.val, by omega⟩ ⟨1024 + j.val, by omega⟩ := by
  rw [← product_at]
  pointwise []

theorem query_at (i : Fin 2) (n : Fin 8192) (j : Fin 512) :
    truncf .bf16 (mulf (extractStridedSlice S2x8192x512 ![0, 0, 0] (product m c) slices_S2x8192x6468_S2x8192x512_0_0_0)
      (broadcastInDim S2x8192x512 ![] bcast_S_S2x8192x512 (constant S_ .f32 0x3E38AA3B#32))) bitsLt_bf16_f32 (ix3 i n j)
      = entries m c i n ⟨j.val, by omega⟩ * Ideal.ofBits FTy.f32 0x3E38AA3B#32 := by
  rw [← product_at]
  pointwise []

theorem gate_at (i : Fin 2) (n : Fin 8192) (j : Fin 512) :
    truncf .bf16 (mulf (extractStridedSlice S2x8192x512 ![0, 0, 1536] (product m c) slices_S2x8192x6468_S2x8192x512_0_0_1536)
      (Host.divf (broadcastInDim S2x8192x512 ![] bcast_S_S2x8192x512 (constant S_ .f32 0x3F800000#32))
        (addf (broadcastInDim S2x8192x512 ![] bcast_S_S2x8192x512 (constant S_ .f32 0x3F800000#32))
          (Host.exp (Host.negf (extractStridedSlice S2x8192x512 ![0, 0, 1536] (product m c) slices_S2x8192x6468_S2x8192x512_0_0_1536))))))
      bitsLt_bf16_f32 (ix3 i n j) = Projection.silu (entries m c i n ⟨1536 + j.val, by omega⟩) := by
  rw [← product_at]
  unfold Projection.silu Ideal.logistic
  pointwise []

theorem turned_value_at (i : Fin 2) (n : Fin 8192) (j : Fin 512) :
    truncf .bf16 (extractStridedSlice S2x8192x512 ![0, 0, 3396] (product m c) slices_S2x8192x6468_S2x8192x512_0_0_3396) bitsLt_bf16_f32
      (ix3 i n j) = entries m c i n ⟨3396 + j.val, by omega⟩ := by
  rw [← product_at]
  pointwise []

theorem turned_gate_at (i : Fin 2) (n : Fin 8192) (j : Fin 512) :
    truncf .bf16 (mulf (extractStridedSlice S2x8192x512 ![0, 0, 3908] (product m c) slices_S2x8192x6468_S2x8192x512_0_0_3908)
      (Host.divf (broadcastInDim S2x8192x512 ![] bcast_S_S2x8192x512 (constant S_ .f32 0x3F800000#32))
        (addf (broadcastInDim S2x8192x512 ![] bcast_S_S2x8192x512 (constant S_ .f32 0x3F800000#32))
          (Host.exp (Host.negf (extractStridedSlice S2x8192x512 ![0, 0, 3908] (product m c) slices_S2x8192x6468_S2x8192x512_0_0_3908))))))
      bitsLt_bf16_f32 (ix3 i n j) = Projection.silu (entries m c i n ⟨3908 + j.val, by omega⟩) := by
  rw [← product_at]
  unfold Projection.silu Ideal.logistic
  pointwise []

theorem mix_at (i : Fin 2) (n : Fin 8192) (j : Fin 1024) :
    truncf .bf16 (Host.divf (broadcastInDim S2x8192x1024 ![] bcast_S_S2x8192x1024 (constant S_ .f32 0x3F800000#32))
      (addf (broadcastInDim S2x8192x1024 ![] bcast_S_S2x8192x1024 (constant S_ .f32 0x3F800000#32))
        (Host.exp (Host.negf (extractStridedSlice S2x8192x1024 ![0, 0, 4420] (product m c) slices_S2x8192x6468_S2x8192x1024_0_0_4420)))))
      bitsLt_bf16_f32 (ix3 i n j) = Ideal.logistic (entries m c i n ⟨4420 + j.val, by omega⟩) := by
  rw [← product_at]
  unfold Ideal.logistic
  pointwise []

theorem turned_mix_at (i : Fin 2) (n : Fin 8192) (j : Fin 1024) :
    truncf .bf16 (Host.divf (broadcastInDim S2x8192x1024 ![] bcast_S_S2x8192x1024 (constant S_ .f32 0x3F800000#32))
      (addf (broadcastInDim S2x8192x1024 ![] bcast_S_S2x8192x1024 (constant S_ .f32 0x3F800000#32))
        (Host.exp (Host.negf (extractStridedSlice S2x8192x1024 ![0, 0, 5444] (product m c) slices_S2x8192x6468_S2x8192x1024_0_0_5444)))))
      bitsLt_bf16_f32 (ix3 i n j) = Ideal.logistic (entries m c i n ⟨5444 + j.val, by omega⟩) := by
  rw [← product_at]
  unfold Ideal.logistic
  pointwise []

/-- The angles, by token and frequency. -/
def angles : FVec Ideal S8192x32 .f32 :=
  mulf (broadcastInDim S8192x32 ![0, 1] bcast_S8192x1_S8192x32_0_1 (broadcastInDim S8192x1 ![0] bcast_S8192_S8192x1_0
      (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angles_at (n : Fin 8192) (f : Fin 32) : angles (ix2 n f) = Projection.angle n f := by
  unfold angles Projection.angle
  pointwise []

/-- Their cosines and sines, for every head. -/
def cosines : FVec Ideal S2x8192x8x32 .f32 :=
  broadcastInDim S2x8192x8x32 ![0, 1, 2, 3] bcast_S1x8192x1x32_S2x8192x8x32_0_1_2_3
    (broadcastInDim S1x8192x1x32 ![1, 3] bcast_S8192x32_S1x8192x1x32_1_3 (Host.cos angles))

def sines : FVec Ideal S2x8192x8x32 .f32 :=
  broadcastInDim S2x8192x8x32 ![0, 1, 2, 3] bcast_S1x8192x1x32_S2x8192x8x32_0_1_2_3
    (broadcastInDim S1x8192x1x32 ![1, 3] bcast_S8192x32_S1x8192x1x32_1_3 (Host.sin angles))

theorem cosines_at (i : Fin 2) (n : Fin 8192) (h : Fin 8) (f : Fin 32) : cosines (ix4 i n h f) = Ideal.cos (Projection.angle n f) := by
  rw [← angles_at]; unfold cosines
  pointwise []

theorem sines_at (i : Fin 2) (n : Fin 8192) (h : Fin 8) (f : Fin 32) : sines (ix4 i n h f) = Ideal.sin (Projection.angle n f) := by
  rw [← angles_at]; unfold sines
  pointwise []

/-- The two halves of the heads of rows `R`. -/
def firsts (R : FVec Ideal S2x8192x512 .f32) : FVec Ideal S2x8192x8x32 .f32 :=
  extractStridedSlice S2x8192x8x32 ![0, 0, 0, 0] (shapeCast S2x8192x8x64 R shapeCasts_S2x8192x512_S2x8192x8x64) slices_S2x8192x8x64_S2x8192x8x32_0_0_0_0

def seconds (R : FVec Ideal S2x8192x512 .f32) : FVec Ideal S2x8192x8x32 .f32 :=
  extractStridedSlice S2x8192x8x32 ![0, 0, 0, 32] (shapeCast S2x8192x8x64 R shapeCasts_S2x8192x512_S2x8192x8x64) slices_S2x8192x8x64_S2x8192x8x32_0_0_0_32

theorem firsts_at (R : FVec Ideal S2x8192x512 .f32) (i : Fin 2) (n : Fin 8192) (h : Fin 8) (f : Fin 32) :
    firsts R (ix4 i n h f) = R (ix3 i n ⟨h.val * 64 + f.val, by omega⟩) := by
  unfold firsts
  pointwise []

theorem seconds_at (R : FVec Ideal S2x8192x512 .f32) (i : Fin 2) (n : Fin 8192) (h : Fin 8) (f : Fin 32) :
    seconds R (ix4 i n h f) = R (ix3 i n ⟨h.val * 64 + (32 + f.val), by omega⟩) := by
  unfold seconds
  pointwise []

/-- The rotated heads of rows `R`. -/
def heads (R : FVec Ideal S2x8192x512 .f32) : FVec Ideal S2x8192x8x64 .f32 :=
  concatenate S2x8192x8x64 3 [⟨S2x8192x8x32, subf (mulf (firsts R) cosines) (mulf (seconds R) sines)⟩,
    ⟨S2x8192x8x32, addf (mulf (firsts R) sines) (mulf (seconds R) cosines)⟩] concatenates_S2x8192x8x32_S2x8192x8x32_S2x8192x8x64_d3

theorem heads_first (R : FVec Ideal S2x8192x512 .f32) (i : Fin 2) (n : Fin 8192) (h : Fin 8) (d : Fin 64) (f : Fin 32) (hd : d.val = f.val) :
    heads R (ix4 i n h d) = firsts R (ix4 i n h f) * cosines (ix4 i n h f) - seconds R (ix4 i n h f) * sines (ix4 i n h f) := by
  rw [show d = ⟨f.val, by omega⟩ from Fin.ext hd]
  unfold heads
  pointwise []

theorem heads_second (R : FVec Ideal S2x8192x512 .f32) (i : Fin 2) (n : Fin 8192) (h : Fin 8) (d : Fin 64) (f : Fin 32) (hd : d.val = 32 + f.val) :
    heads R (ix4 i n h d) = firsts R (ix4 i n h f) * sines (ix4 i n h f) + seconds R (ix4 i n h f) * cosines (ix4 i n h f) := by
  rw [show d = ⟨32 + f.val, by omega⟩ from Fin.ext hd]
  unfold heads
  pointwise []

/-- The rotated heads regrouped: of the four heads of a group first all first halves, then all second ones. -/
def grouped (H : FVec Ideal S2x8192x8x64 .f32) : FVec Ideal S2x8192x512 .f32 :=
  shapeCast S2x8192x512 (transpose S2x8192x2x2x4x32 [0, 1, 2, 4, 3, 5] (shapeCast S2x8192x2x4x2x32 H shapeCasts_S2x8192x8x64_S2x8192x2x4x2x32)
    transposes_S2x8192x2x4x2x32_S2x8192x2x2x4x32_0_1_2_4_3_5) shapeCasts_S2x8192x2x2x4x32_S2x8192x512

theorem grouped_at (H : FVec Ideal S2x8192x8x64 .f32) (i : Fin 2) (n : Fin 8192) (j : Fin 512) :
    grouped H (ix3 i n j) = H (ix4 i n ⟨j.val / 256 * 4 + j.val / 32 % 4, by omega⟩ ⟨j.val / 128 % 2 * 32 + j.val % 32, by omega⟩) := by
  unfold grouped
  pointwise []

/-- Columns `o` and on of the product, rotated and regrouped, are the row's turned features. -/
theorem turned_of (R : FVec Ideal S2x8192x512 .f32) (P : Fin 2 → Fin 8192 → Fin 6468 → EReal) (o : ℕ) (ho : o ≤ 5000)
    (hR : ∀ i n (j : Fin 512), R (ix3 i n j) = P i n ⟨o + j.val, by omega⟩) (i : Fin 2) (n : Fin 8192) (j : Fin 512) :
    grouped (heads R) (ix3 i n j) = Projection.turned (P i n) o ho n j := by
  rw [grouped_at]
  unfold Projection.turned
  have e1 : o + ((j.val / 256 * 4 + j.val / 32 % 4) * 64 + j.val % 32) = o + (j.val / 256 * 256 + j.val / 32 % 4 * 64 + j.val % 32) := by omega
  have e2 : o + ((j.val / 256 * 4 + j.val / 32 % 4) * 64 + (32 + j.val % 32))
      = o + (j.val / 256 * 256 + j.val / 32 % 4 * 64 + j.val % 32 + 32) := by omega
  by_cases h : j.val % 256 < 128
  · rw [if_pos h, heads_first R i n _ _ ⟨j.val % 32, by omega⟩ (by show j.val / 128 % 2 * 32 + j.val % 32 = j.val % 32; omega)]
    simp only [firsts_at, seconds_at, cosines_at, sines_at, hR, e1, e2]
  · rw [if_neg h, heads_second R i n _ _ ⟨j.val % 32, by omega⟩ (by show j.val / 128 % 2 * 32 + j.val % 32 = 32 + j.val % 32; omega)]
    simp only [firsts_at, seconds_at, cosines_at, sines_at, hR, e1, e2]

theorem turned_query_at (i : Fin 2) (n : Fin 8192) (j : Fin 512) :
    res_out6 m c (ix3 i n j) = Projection.turned (entries m c i n) 2372 (by omega) n j := by
  have e : res_out6 m c = grouped (heads (extractStridedSlice S2x8192x512 ![0, 0, 2372] (product m c) slices_S2x8192x6468_S2x8192x512_0_0_2372)) := by
    unfold res_out6 res_main_v112
    rfl
  rw [e]
  refine turned_of _ (entries m c) 2372 (by omega) (fun i n j => ?_) i n j
  rw [← product_at]
  pointwise []

theorem turned_key_at (i : Fin 2) (n : Fin 8192) (j : Fin 512) :
    res_out7 m c (ix3 i n j) = Projection.turned (entries m c i n) 2884 (by omega) n j * Ideal.ofBits FTy.f32 0x3E000000#32 := by
  have e : res_out7 m c = grouped (mulf (heads (extractStridedSlice S2x8192x512 ![0, 0, 2884] (product m c) slices_S2x8192x6468_S2x8192x512_0_0_2884))
      (broadcastInDim S2x8192x8x64 ![] bcast_S_S2x8192x8x64 (constant S_ .f32 0x3E000000#32))) := by
    unfold res_out7 res_main_v116
    rfl
  rw [e, ← turned_of (extractStridedSlice S2x8192x512 ![0, 0, 2884] (product m c) slices_S2x8192x6468_S2x8192x512_0_0_2884)
    (entries m c) 2884 (by omega) (fun i n j => by rw [← product_at]; pointwise []) i n j, grouped_at, grouped_at]
  pointwise []

end Cert.Reference2Ideal.Results

end
-- ==== Proof.ProjectionFrame.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-!
The projection call over the extended reals: the generated frame, with more room for its widest steps (the call has 25 windows).
-/

namespace Cert.Kernel2Ideal.Call

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c))⟩) h

/-! ## The body's accesses -/

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S6144x1024 := Rect.unit (s := S6144x1024) ![0, 0] S512x1024.size inb_S6144x1024_S512x1024_0_0
abbrev r0_4 : Rect S1x512x512 := Rect.unit (s := S1x512x512) ![0, 0, 0] S1x512x512.size inb_S1x512x512_S1x512x512_0_0_0
abbrev r0_5 : Rect S6144x1024 := Rect.unit (s := S6144x1024) ![512, 0] S512x1024.size inb_S6144x1024_S512x1024_512_0
abbrev r0_6 : Rect S6144x1024 := Rect.unit (s := S6144x1024) ![1024, 0] S512x1024.size inb_S6144x1024_S512x1024_1024_0
abbrev r0_7 : Rect S1x4x512x128 := Rect.unit (s := S1x4x512x128) ![0, 0, 0, 0] S1x1x512x128.size inb_S1x4x512x128_S1x1x512x128_0_0_0_0
abbrev r0_8 : Rect S1x4x512x128 := Rect.unit (s := S1x4x512x128) ![0, 1, 0, 0] S1x1x512x128.size inb_S1x4x512x128_S1x1x512x128_0_1_0_0
abbrev r0_9 : Rect S1x4x512x128 := Rect.unit (s := S1x4x512x128) ![0, 2, 0, 0] S1x1x512x128.size inb_S1x4x512x128_S1x1x512x128_0_2_0_0
abbrev r0_10 : Rect S1x4x512x128 := Rect.unit (s := S1x4x512x128) ![0, 3, 0, 0] S1x1x512x128.size inb_S1x4x512x128_S1x1x512x128_0_3_0_0
abbrev r0_11 : Rect S6144x1024 := Rect.unit (s := S6144x1024) ![1536, 0] S512x1024.size inb_S6144x1024_S512x1024_1536_0
abbrev r0_12 : Rect S512x128 := Rect.unit (s := S512x128) ![0, 0] S512x128.size inb_S512x128_S512x128_0_0
abbrev r0_13 : Rect S6144x1024 := Rect.unit (s := S6144x1024) ![2048, 0] S512x1024.size inb_S6144x1024_S512x1024_2048_0
abbrev r0_14 : Rect S1x512x512 := Rect.unit (s := S1x512x512) ![0, 0, 0] S1x512x128.size inb_S1x512x512_S1x512x128_0_0_0
abbrev r0_15 : Rect S1x512x512 := Rect.unit (s := S1x512x512) ![0, 0, 128] S1x512x128.size inb_S1x512x512_S1x512x128_0_0_128
abbrev r0_16 : Rect S1x512x512 := Rect.unit (s := S1x512x512) ![0, 0, 256] S1x512x128.size inb_S1x512x512_S1x512x128_0_0_256
abbrev r0_17 : Rect S1x512x512 := Rect.unit (s := S1x512x512) ![0, 0, 384] S1x512x128.size inb_S1x512x512_S1x512x128_0_0_384
abbrev r0_18 : Rect S6144x1024 := Rect.unit (s := S6144x1024) ![2560, 0] S512x1024.size inb_S6144x1024_S512x1024_2560_0
abbrev r0_19 : Rect S6144x1024 := Rect.unit (s := S6144x1024) ![3072, 0] S512x1024.size inb_S6144x1024_S512x1024_3072_0
abbrev r0_20 : Rect S6144x1024 := Rect.unit (s := S6144x1024) ![3584, 0] S512x1024.size inb_S6144x1024_S512x1024_3584_0
abbrev r0_21 : Rect S6144x1024 := Rect.unit (s := S6144x1024) ![4096, 0] S512x1024.size inb_S6144x1024_S512x1024_4096_0
abbrev r0_22 : Rect S1x512x1024 := Rect.unit (s := S1x512x1024) ![0, 0, 0] S1x512x512.size inb_S1x512x1024_S1x512x512_0_0_0
abbrev r0_23 : Rect S6144x1024 := Rect.unit (s := S6144x1024) ![5120, 0] S512x1024.size inb_S6144x1024_S512x1024_5120_0
abbrev r0_24 : Rect S6144x1024 := Rect.unit (s := S6144x1024) ![4608, 0] S512x1024.size inb_S6144x1024_S512x1024_4608_0
abbrev r0_25 : Rect S1x512x1024 := Rect.unit (s := S1x512x1024) ![0, 0, 512] S1x512x512.size inb_S1x512x1024_S1x512x512_0_0_512
abbrev r0_26 : Rect S6144x1024 := Rect.unit (s := S6144x1024) ![5632, 0] S512x1024.size inb_S6144x1024_S512x1024_5632_0
abbrev r0_27 : Rect S768x1024 := Rect.unit (s := S768x1024) ![0, 0] S768x1024.size inb_S768x1024_S768x1024_0_0
abbrev r0_28 : Rect S1x512x1024 := Rect.unit (s := S1x512x1024) ![0, 0, 0] S1x512x128.size inb_S1x512x1024_S1x512x128_0_0_0
abbrev r0_29 : Rect S1x512x1024 := Rect.unit (s := S1x512x1024) ![0, 0, 128] S1x512x128.size inb_S1x512x1024_S1x512x128_0_0_128
abbrev r0_30 : Rect S1x512x1024 := Rect.unit (s := S1x512x1024) ![0, 0, 256] S1x512x128.size inb_S1x512x1024_S1x512x128_0_0_256
abbrev r0_31 : Rect S1x512x1024 := Rect.unit (s := S1x512x1024) ![0, 0, 384] S1x512x128.size inb_S1x512x1024_S1x512x128_0_0_384
abbrev r0_32 : Rect S1x512x1024 := Rect.unit (s := S1x512x1024) ![0, 0, 512] S1x512x128.size inb_S1x512x1024_S1x512x128_0_0_512
abbrev r0_33 : Rect S1x512x1024 := Rect.unit (s := S1x512x1024) ![0, 0, 640] S1x512x128.size inb_S1x512x1024_S1x512x128_0_0_640
abbrev r0_34 : Rect S1x512x1024 := Rect.unit (s := S1x512x1024) ![0, 0, 768] S1x512x128.size inb_S1x512x1024_S1x512x128_0_0_768
abbrev r0_35 : Rect S1x512x1024 := Rect.unit (s := S1x512x1024) ![0, 0, 896] S1x512x128.size inb_S1x512x1024_S1x512x128_0_0_896
abbrev r0_36 : Rect S1x512x256 := Rect.unit (s := S1x512x256) ![0, 0, 0] S1x512x128.size inb_S1x512x256_S1x512x128_0_0_0
abbrev r0_37 : Rect S1x512x256 := Rect.unit (s := S1x512x256) ![0, 0, 128] S1x512x128.size inb_S1x512x256_S1x512x128_0_0_128
abbrev r0_38 : Rect S1x64x512 := Rect.unit (s := S1x64x512) ![0, 0, 0] S1x64x512.size inb_S1x64x512_S1x64x512_0_0_0
abbrev r0_39 : Rect S1x2x8x256 := Rect.unit (s := S1x2x8x256) ![0, 0, 0, 0] S1x1x8x256.size inb_S1x2x8x256_S1x1x8x256_0_0_0_0
abbrev r0_40 : Rect S1x2x8x256 := Rect.unit (s := S1x2x8x256) ![0, 1, 0, 0] S1x1x8x256.size inb_S1x2x8x256_S1x1x8x256_0_1_0_0

/-! ## What the body leaves in each output window's buffer -/

/-! ### Values of the body that the stores' payloads, spelt out, would write more than once

    Each is a vector the body binds (often a part call's result), stated over the input windows' blocks and
    numbered on from the skeleton's payload functions (`k0_pay64` …, after `k0_pay63`), so that
    `out0_W` and the values after it name it instead of spelling it out; the comment after each is the printed
    function's name for the value (a count appended where that name is bound again). -/

def k0_pay64 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : FVec F S512x1024 .bf16 :=
  k0_pay5 (View.ld x0 r0_0) (View.ld x3 r0_1) (View.ld x1 r0_2) (View.ld x2 r0_2) -- `v26`
def k0_pay65 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : FVec F S512x1024 .bf16 :=
  k0_pay6 (View.ld x0 r0_0) (View.ld x3 r0_1) (View.ld x1 r0_2) (View.ld x2 r0_2) -- `v29`
def k0_pay66 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : FVec F S512x128 .f32 :=
  k0_pay19 (View.ld x4 r0_12) -- `v85`
def k0_pay67 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : FVec F S512x128 .f32 :=
  k0_pay20 (View.ld x5 r0_12) -- `v87`
def k0_pay68 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : FVec F S512x512 .f32 :=
  k0_pay21 (k0_pay64 x0 x1 x2 x3 x4 x5 x6 x7 x8) (View.ld x6 r0_13) -- `v90`
def k0_pay69 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : FVec F S512x512 .f32 :=
  k0_pay30 (k0_pay64 x0 x1 x2 x3 x4 x5 x6 x7 x8) (View.ld x6 r0_18) -- `v125`
def k0_pay70 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : FVec F S512x768 .f32 :=
  k0_pay46 (k0_pay64 x0 x1 x2 x3 x4 x5 x6 x7 x8) (k0_pay65 x0 x1 x2 x3 x4 x5 x6 x7 x8) (View.ld x7 r0_27) (View.ld x8 r0_27) -- `v216`
def k0_pay71 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : FVec F S512x512 .bf16 :=
  k0_pay49 (k0_pay64 x0 x1 x2 x3 x4 x5 x6 x7 x8) (k0_pay65 x0 x1 x2 x3 x4 x5 x6 x7 x8) (View.ld x7 r0_27) (View.ld x8 r0_27) -- `v221`

/-- Window 9's staging buffer after the body, from the input windows' blocks: its 1 store as pieces, LAST
    FIRST (Lib/Pipeline/FrameBody.lean `View.canon`; the payloads are the skeleton's and the values stated above). -/
def out0_9 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x512 .bf16 :=
  View.canon [⟨r0_4, k0_pay7 (View.ld x0 r0_0) (View.ld x3 r0_1) (View.ld x1 r0_2) (View.ld x2 r0_2) (View.ld x6 r0_3)⟩]

/-- Its stores tile the buffer (checked by evaluation), so they cover it. -/
theorem cover0_9 (p0 : Vec F S1x512x512 .bf16) (y : S1x512x512.Idx) :
    ∃ pc ∈ ([⟨r0_4, p0⟩] : List (View.Piece (Elt F) S1x512x512 .bf16)), y ∈ pc.1.set :=
  View.cover_of_tiled [⟨r0_4, p0⟩] S1x512x512.size (by rfl) y

/-- Window 10's staging buffer after the body, from the input windows' blocks: its 1 store as pieces, LAST
    FIRST (Lib/Pipeline/FrameBody.lean `View.canon`; the payloads are the skeleton's and the values stated above). -/
def out0_10 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x512 .f32 :=
  View.canon [⟨r0_4, k0_pay9 (k0_pay64 x0 x1 x2 x3 x4 x5 x6 x7 x8) (View.ld x6 r0_5)⟩]

/-- Its stores tile the buffer (checked by evaluation), so they cover it. -/
theorem cover0_10 (p0 : Vec F S1x512x512 .f32) (y : S1x512x512.Idx) :
    ∃ pc ∈ ([⟨r0_4, p0⟩] : List (View.Piece (Elt F) S1x512x512 .f32)), y ∈ pc.1.set :=
  View.cover_of_tiled [⟨r0_4, p0⟩] S1x512x512.size (by rfl) y

/-- Window 11's staging buffer after the body, from the input windows' blocks: its 1 store as pieces, LAST
    FIRST (Lib/Pipeline/FrameBody.lean `View.canon`; the payloads are the skeleton's and the values stated above). -/
def out0_11 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x512 .f32 :=
  View.canon [⟨r0_4, k0_pay12 (k0_pay64 x0 x1 x2 x3 x4 x5 x6 x7 x8) (View.ld x6 r0_6)⟩]

/-- Its stores tile the buffer (checked by evaluation), so they cover it. -/
theorem cover0_11 (p0 : Vec F S1x512x512 .f32) (y : S1x512x512.Idx) :
    ∃ pc ∈ ([⟨r0_4, p0⟩] : List (View.Piece (Elt F) S1x512x512 .f32)), y ∈ pc.1.set :=
  View.cover_of_tiled [⟨r0_4, p0⟩] S1x512x512.size (by rfl) y

/-- Window 12's staging buffer after the body, from the input windows' blocks: its 1 store as pieces, LAST
    FIRST (Lib/Pipeline/FrameBody.lean `View.canon`; the payloads are the skeleton's and the values stated above). -/
def out0_12 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x512 .bf16 :=
  View.canon [⟨r0_4, k0_pay10 (k0_pay64 x0 x1 x2 x3 x4 x5 x6 x7 x8) (View.ld x6 r0_5)⟩]

/-- Its stores tile the buffer (checked by evaluation), so they cover it. -/
theorem cover0_12 (p0 : Vec F S1x512x512 .bf16) (y : S1x512x512.Idx) :
    ∃ pc ∈ ([⟨r0_4, p0⟩] : List (View.Piece (Elt F) S1x512x512 .bf16)), y ∈ pc.1.set :=
  View.cover_of_tiled [⟨r0_4, p0⟩] S1x512x512.size (by rfl) y

/-- Window 13's staging buffer after the body, from the input windows' blocks: its 4 stores as pieces, LAST
    FIRST (Lib/Pipeline/FrameBody.lean `View.canon`; the payloads are the skeleton's and the values stated above). -/
def out0_13 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x4x512x128 .bf16 :=
  View.canon [⟨r0_10, k0_pay17 (k0_pay11 (k0_pay64 x0 x1 x2 x3 x4 x5 x6 x7 x8) (View.ld x6 r0_6))⟩,
    ⟨r0_9, k0_pay16 (k0_pay15 (k0_pay64 x0 x1 x2 x3 x4 x5 x6 x7 x8) (View.ld x6 r0_6))⟩,
    ⟨r0_8, k0_pay14 (k0_pay64 x0 x1 x2 x3 x4 x5 x6 x7 x8) (View.ld x6 r0_6)⟩,
    ⟨r0_7, k0_pay13 (k0_pay64 x0 x1 x2 x3 x4 x5 x6 x7 x8) (View.ld x6 r0_6)⟩]

/-- Its stores tile the buffer (checked by evaluation), so they cover it. -/
theorem cover0_13 (p0 : Vec F S1x1x512x128 .bf16) (p1 : Vec F S1x1x512x128 .bf16) (p2 : Vec F S1x1x512x128 .bf16) (p3 : Vec F S1x1x512x128 .bf16) (y : S1x4x512x128.Idx) :
    ∃ pc ∈ ([⟨r0_10, p0⟩, ⟨r0_9, p1⟩, ⟨r0_8, p2⟩, ⟨r0_7, p3⟩] : List (View.Piece (Elt F) S1x4x512x128 .bf16)), y ∈ pc.1.set :=
  View.cover_of_tiled [⟨r0_10, p0⟩, ⟨r0_9, p1⟩, ⟨r0_8, p2⟩, ⟨r0_7, p3⟩] S1x1x512x128.size (by rfl) y

/-- Window 14's staging buffer after the body, from the input windows' blocks: its 1 store as pieces, LAST
    FIRST (Lib/Pipeline/FrameBody.lean `View.canon`; the payloads are the skeleton's and the values stated above). -/
def out0_14 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x512 .bf16 :=
  View.canon [⟨r0_4, k0_pay18 (k0_pay64 x0 x1 x2 x3 x4 x5 x6 x7 x8) (View.ld x6 r0_11)⟩]

/-- Its stores tile the buffer (checked by evaluation), so they cover it. -/
theorem cover0_14 (p0 : Vec F S1x512x512 .bf16) (y : S1x512x512.Idx) :
    ∃ pc ∈ ([⟨r0_4, p0⟩] : List (View.Piece (Elt F) S1x512x512 .bf16)), y ∈ pc.1.set :=
  View.cover_of_tiled [⟨r0_4, p0⟩] S1x512x512.size (by rfl) y

/-- Window 15's staging buffer after the body, from the input windows' blocks: its 8 stores as pieces, LAST
    FIRST (Lib/Pipeline/FrameBody.lean `View.canon`; the payloads are the skeleton's and the values stated above). -/
def out0_15 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x1024 .bf16 :=
  View.canon [⟨r0_35, k0_pay58 (k0_pay71 x0 x1 x2 x3 x4 x5 x6 x7 x8)⟩,
    ⟨r0_34, k0_pay57 (k0_pay48 (k0_pay64 x0 x1 x2 x3 x4 x5 x6 x7 x8) (k0_pay65 x0 x1 x2 x3 x4 x5 x6 x7 x8) (View.ld x7 r0_27) (View.ld x8 r0_27))⟩,
    ⟨r0_33, k0_pay56 (k0_pay71 x0 x1 x2 x3 x4 x5 x6 x7 x8)⟩,
    ⟨r0_32, k0_pay55 (k0_pay54 (k0_pay64 x0 x1 x2 x3 x4 x5 x6 x7 x8) (k0_pay65 x0 x1 x2 x3 x4 x5 x6 x7 x8) (View.ld x7 r0_27) (View.ld x8 r0_27))⟩,
    ⟨r0_31, k0_pay53 (k0_pay64 x0 x1 x2 x3 x4 x5 x6 x7 x8) (k0_pay65 x0 x1 x2 x3 x4 x5 x6 x7 x8) (View.ld x7 r0_27) (View.ld x8 r0_27)⟩,
    ⟨r0_30, k0_pay52 (k0_pay64 x0 x1 x2 x3 x4 x5 x6 x7 x8) (k0_pay65 x0 x1 x2 x3 x4 x5 x6 x7 x8) (View.ld x7 r0_27) (View.ld x8 r0_27)⟩,
    ⟨r0_29, k0_pay51 (k0_pay64 x0 x1 x2 x3 x4 x5 x6 x7 x8) (k0_pay65 x0 x1 x2 x3 x4 x5 x6 x7 x8) (View.ld x7 r0_27) (View.ld x8 r0_27)⟩,
    ⟨r0_28, k0_pay50 (k0_pay64 x0 x1 x2 x3 x4 x5 x6 x7 x8) (k0_pay65 x0 x1 x2 x3 x4 x5 x6 x7 x8) (View.ld x7 r0_27) (View.ld x8 r0_27)⟩]

/-- Its stores tile the buffer (checked by evaluation), so they cover it. -/
theorem cover0_15 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_35, p0⟩, ⟨r0_34, p1⟩, ⟨r0_33, p2⟩, ⟨r0_32, p3⟩, ⟨r0_31, p4⟩, ⟨r0_30, p5⟩, ⟨r0_29, p6⟩, ⟨r0_28, p7⟩] : List (View.Piece (Elt F) S1x512x1024 .bf16)), y ∈ pc.1.set :=
  View.cover_of_tiled [⟨r0_35, p0⟩, ⟨r0_34, p1⟩, ⟨r0_33, p2⟩, ⟨r0_32, p3⟩, ⟨r0_31, p4⟩, ⟨r0_30, p5⟩, ⟨r0_29, p6⟩, ⟨r0_28, p7⟩] S1x512x128.size (by rfl) y

/-- Window 16's staging buffer after the body, from the input windows' blocks: its 2 stores as pieces, LAST
    FIRST (Lib/Pipeline/FrameBody.lean `View.canon`; the payloads are the skeleton's and the values stated above). -/
def out0_16 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x256 .bf16 :=
  View.canon [⟨r0_37, k0_pay62 (k0_pay70 x0 x1 x2 x3 x4 x5 x6 x7 x8)⟩,
    ⟨r0_36, k0_pay61 (k0_pay70 x0 x1 x2 x3 x4 x5 x6 x7 x8)⟩]

/-- Its stores tile the buffer (checked by evaluation), so they cover it. -/
theorem cover0_16 (p0 : Vec F S1x512x128 .bf16) (p1 : Vec F S1x512x128 .bf16) (y : S1x512x256.Idx) :
    ∃ pc ∈ ([⟨r0_37, p0⟩, ⟨r0_36, p1⟩] : List (View.Piece (Elt F) S1x512x256 .bf16)), y ∈ pc.1.set :=
  View.cover_of_tiled [⟨r0_37, p0⟩, ⟨r0_36, p1⟩] S1x512x128.size (by rfl) y

/-- Window 17's staging buffer after the body, from the input windows' blocks: its 1 store as pieces, LAST
    FIRST (Lib/Pipeline/FrameBody.lean `View.canon`; the payloads are the skeleton's and the values stated above). -/
def out0_17 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x64x512 .f32 :=
  View.canon [⟨r0_38, k0_pay63 (k0_pay70 x0 x1 x2 x3 x4 x5 x6 x7 x8)⟩]

/-- Its stores tile the buffer (checked by evaluation), so they cover it. -/
theorem cover0_17 (p0 : Vec F S1x64x512 .f32) (y : S1x64x512.Idx) :
    ∃ pc ∈ ([⟨r0_38, p0⟩] : List (View.Piece (Elt F) S1x64x512 .f32)), y ∈ pc.1.set :=
  View.cover_of_tiled [⟨r0_38, p0⟩] S1x64x512.size (by rfl) y

/-- Window 18's staging buffer after the body, from the input windows' blocks: its 2 stores as pieces, LAST
    FIRST (Lib/Pipeline/FrameBody.lean `View.canon`; the payloads are the skeleton's and the values stated above). -/
def out0_18 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x2x8x256 .f32 :=
  View.canon [⟨r0_40, k0_pay3 (k0_pay70 x0 x1 x2 x3 x4 x5 x6 x7 x8)⟩,
    ⟨r0_39, k0_pay2 (k0_pay70 x0 x1 x2 x3 x4 x5 x6 x7 x8)⟩]

/-- Its stores tile the buffer (checked by evaluation), so they cover it. -/
theorem cover0_18 (p0 : Vec F S1x1x8x256 .f32) (p1 : Vec F S1x1x8x256 .f32) (y : S1x2x8x256.Idx) :
    ∃ pc ∈ ([⟨r0_40, p0⟩, ⟨r0_39, p1⟩] : List (View.Piece (Elt F) S1x2x8x256 .f32)), y ∈ pc.1.set :=
  View.cover_of_tiled [⟨r0_40, p0⟩, ⟨r0_39, p1⟩] S1x1x8x256.size (by rfl) y

/-- Window 19's staging buffer after the body, from the input windows' blocks: its 4 stores as pieces, LAST
    FIRST (Lib/Pipeline/FrameBody.lean `View.canon`; the payloads are the skeleton's and the values stated above). -/
def out0_19 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x512 .bf16 :=
  View.canon [⟨r0_17, k0_pay29 (k0_pay66 x0 x1 x2 x3 x4 x5 x6 x7 x8) (k0_pay67 x0 x1 x2 x3 x4 x5 x6 x7 x8) (k0_pay68 x0 x1 x2 x3 x4 x5 x6 x7 x8)⟩,
    ⟨r0_16, k0_pay28 (k0_pay66 x0 x1 x2 x3 x4 x5 x6 x7 x8) (k0_pay67 x0 x1 x2 x3 x4 x5 x6 x7 x8) (k0_pay68 x0 x1 x2 x3 x4 x5 x6 x7 x8)⟩,
    ⟨r0_15, k0_pay25 (k0_pay66 x0 x1 x2 x3 x4 x5 x6 x7 x8) (k0_pay67 x0 x1 x2 x3 x4 x5 x6 x7 x8) (k0_pay22 (k0_pay64 x0 x1 x2 x3 x4 x5 x6 x7 x8) (View.ld x6 r0_13)) (k0_pay23 (k0_pay64 x0 x1 x2 x3 x4 x5 x6 x7 x8) (View.ld x6 r0_13))⟩,
    ⟨r0_14, k0_pay24 (k0_pay64 x0 x1 x2 x3 x4 x5 x6 x7 x8) (View.ld x4 r0_12) (View.ld x5 r0_12) (View.ld x6 r0_13)⟩]

/-- Its stores tile the buffer (checked by evaluation), so they cover it. -/
theorem cover0_19 (p0 : Vec F S1x512x128 .bf16) (p1 : Vec F S1x512x128 .bf16) (p2 : Vec F S1x512x128 .bf16) (p3 : Vec F S1x512x128 .bf16) (y : S1x512x512.Idx) :
    ∃ pc ∈ ([⟨r0_17, p0⟩, ⟨r0_16, p1⟩, ⟨r0_15, p2⟩, ⟨r0_14, p3⟩] : List (View.Piece (Elt F) S1x512x512 .bf16)), y ∈ pc.1.set :=
  View.cover_of_tiled [⟨r0_17, p0⟩, ⟨r0_16, p1⟩, ⟨r0_15, p2⟩, ⟨r0_14, p3⟩] S1x512x128.size (by rfl) y

/-- Window 20's staging buffer after the body, from the input windows' blocks: its 4 stores as pieces, LAST
    FIRST (Lib/Pipeline/FrameBody.lean `View.canon`; the payloads are the skeleton's and the values stated above). -/
def out0_20 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x512 .bf16 :=
  View.canon [⟨r0_17, k0_pay39 (k0_pay66 x0 x1 x2 x3 x4 x5 x6 x7 x8) (k0_pay67 x0 x1 x2 x3 x4 x5 x6 x7 x8) (k0_pay69 x0 x1 x2 x3 x4 x5 x6 x7 x8)⟩,
    ⟨r0_16, k0_pay38 (k0_pay66 x0 x1 x2 x3 x4 x5 x6 x7 x8) (k0_pay67 x0 x1 x2 x3 x4 x5 x6 x7 x8) (k0_pay69 x0 x1 x2 x3 x4 x5 x6 x7 x8)⟩,
    ⟨r0_15, k0_pay35 (k0_pay34 (k0_pay64 x0 x1 x2 x3 x4 x5 x6 x7 x8) (k0_pay66 x0 x1 x2 x3 x4 x5 x6 x7 x8) (k0_pay67 x0 x1 x2 x3 x4 x5 x6 x7 x8) (View.ld x6 r0_18))⟩,
    ⟨r0_14, k0_pay33 (k0_pay64 x0 x1 x2 x3 x4 x5 x6 x7 x8) (k0_pay66 x0 x1 x2 x3 x4 x5 x6 x7 x8) (k0_pay67 x0 x1 x2 x3 x4 x5 x6 x7 x8) (View.ld x6 r0_18)⟩]

/-- Its stores tile the buffer (checked by evaluation), so they cover it. -/
theorem cover0_20 (p0 : Vec F S1x512x128 .bf16) (p1 : Vec F S1x512x128 .bf16) (p2 : Vec F S1x512x128 .bf16) (p3 : Vec F S1x512x128 .bf16) (y : S1x512x512.Idx) :
    ∃ pc ∈ ([⟨r0_17, p0⟩, ⟨r0_16, p1⟩, ⟨r0_15, p2⟩, ⟨r0_14, p3⟩] : List (View.Piece (Elt F) S1x512x512 .bf16)), y ∈ pc.1.set :=
  View.cover_of_tiled [⟨r0_17, p0⟩, ⟨r0_16, p1⟩, ⟨r0_15, p2⟩, ⟨r0_14, p3⟩] S1x512x128.size (by rfl) y

/-- Window 21's staging buffer after the body, from the input windows' blocks: its 1 store as pieces, LAST
    FIRST (Lib/Pipeline/FrameBody.lean `View.canon`; the payloads are the skeleton's and the values stated above). -/
def out0_21 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x512 .bf16 :=
  View.canon [⟨r0_4, k0_pay40 (k0_pay64 x0 x1 x2 x3 x4 x5 x6 x7 x8) (View.ld x6 r0_19)⟩]

/-- Its stores tile the buffer (checked by evaluation), so they cover it. -/
theorem cover0_21 (p0 : Vec F S1x512x512 .bf16) (y : S1x512x512.Idx) :
    ∃ pc ∈ ([⟨r0_4, p0⟩] : List (View.Piece (Elt F) S1x512x512 .bf16)), y ∈ pc.1.set :=
  View.cover_of_tiled [⟨r0_4, p0⟩] S1x512x512.size (by rfl) y

/-- Window 22's staging buffer after the body, from the input windows' blocks: its 1 store as pieces, LAST
    FIRST (Lib/Pipeline/FrameBody.lean `View.canon`; the payloads are the skeleton's and the values stated above). -/
def out0_22 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x512 .bf16 :=
  View.canon [⟨r0_4, k0_pay41 (k0_pay64 x0 x1 x2 x3 x4 x5 x6 x7 x8) (View.ld x6 r0_20)⟩]

/-- Its stores tile the buffer (checked by evaluation), so they cover it. -/
theorem cover0_22 (p0 : Vec F S1x512x512 .bf16) (y : S1x512x512.Idx) :
    ∃ pc ∈ ([⟨r0_4, p0⟩] : List (View.Piece (Elt F) S1x512x512 .bf16)), y ∈ pc.1.set :=
  View.cover_of_tiled [⟨r0_4, p0⟩] S1x512x512.size (by rfl) y

/-- Window 23's staging buffer after the body, from the input windows' blocks: its 2 stores as pieces, LAST
    FIRST (Lib/Pipeline/FrameBody.lean `View.canon`; the payloads are the skeleton's and the values stated above). -/
def out0_23 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x1024 .bf16 :=
  View.canon [⟨r0_25, k0_pay44 (k0_pay64 x0 x1 x2 x3 x4 x5 x6 x7 x8) (View.ld x6 r0_24)⟩,
    ⟨r0_22, k0_pay42 (k0_pay64 x0 x1 x2 x3 x4 x5 x6 x7 x8) (View.ld x6 r0_21)⟩]

/-- Its stores tile the buffer (checked by evaluation), so they cover it. -/
theorem cover0_23 (p0 : Vec F S1x512x512 .bf16) (p1 : Vec F S1x512x512 .bf16) (y : S1x512x1024.Idx) :
    ∃ pc ∈ ([⟨r0_25, p0⟩, ⟨r0_22, p1⟩] : List (View.Piece (Elt F) S1x512x1024 .bf16)), y ∈ pc.1.set :=
  View.cover_of_tiled [⟨r0_25, p0⟩, ⟨r0_22, p1⟩] S1x512x512.size (by rfl) y

/-- Window 24's staging buffer after the body, from the input windows' blocks: its 2 stores as pieces, LAST
    FIRST (Lib/Pipeline/FrameBody.lean `View.canon`; the payloads are the skeleton's and the values stated above). -/
def out0_24 (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) : Vec F S1x512x1024 .bf16 :=
  View.canon [⟨r0_25, k0_pay45 (k0_pay64 x0 x1 x2 x3 x4 x5 x6 x7 x8) (View.ld x6 r0_26)⟩,
    ⟨r0_22, k0_pay43 (k0_pay64 x0 x1 x2 x3 x4 x5 x6 x7 x8) (View.ld x6 r0_23)⟩]

/-- Its stores tile the buffer (checked by evaluation), so they cover it. -/
theorem cover0_24 (p0 : Vec F S1x512x512 .bf16) (p1 : Vec F S1x512x512 .bf16) (y : S1x512x1024.Idx) :
    ∃ pc ∈ ([⟨r0_25, p0⟩, ⟨r0_22, p1⟩] : List (View.Piece (Elt F) S1x512x1024 .bf16)), y ∈ pc.1.set :=
  View.cover_of_tiled [⟨r0_25, p0⟩, ⟨r0_22, p1⟩] S1x512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S6144x1024 .bf16) (harg8 : arg8.IsWhole) (arg9 : Memref sig .tc .vmem S768x1024 .bf16) (harg9 : arg9.IsWhole) (arg10 : Memref sig .tc .vmem S768x1024 .bf16) (harg10 : arg10.IsWhole) (arg11 : Memref sig .tc .vmem S1x512x512 .bf16) (harg11 : arg11.IsWhole) (arg12 : Memref sig .tc .vmem S1x512x512 .f32) (harg12 : arg12.IsWhole) (arg13 : Memref sig .tc .vmem S1x512x512 .f32) (harg13 : arg13.IsWhole) (arg14 : Memref sig .tc .vmem S1x512x512 .bf16) (harg14 : arg14.IsWhole) (arg15 : Memref sig .tc .vmem S1x4x512x128 .bf16) (harg15 : arg15.IsWhole) (arg16 : Memref sig .tc .vmem S1x512x512 .bf16) (harg16 : arg16.IsWhole) (arg17 : Memref sig .tc .vmem S1x512x1024 .bf16) (harg17 : arg17.IsWhole) (arg18 : Memref sig .tc .vmem S1x512x256 .bf16) (harg18 : arg18.IsWhole) (arg19 : Memref sig .tc .vmem S1x64x512 .f32) (harg19 : arg19.IsWhole) (arg20 : Memref sig .tc .vmem S1x2x8x256 .f32) (harg20 : arg20.IsWhole) (arg21 : Memref sig .tc .vmem S1x512x512 .bf16) (harg21 : arg21.IsWhole) (arg22 : Memref sig .tc .vmem S1x512x512 .bf16) (harg22 : arg22.IsWhole) (arg23 : Memref sig .tc .vmem S1x512x512 .bf16) (harg23 : arg23.IsWhole) (arg24 : Memref sig .tc .vmem S1x512x512 .bf16) (harg24 : arg24.IsWhole) (arg25 : Memref sig .tc .vmem S1x512x1024 .bf16) (harg25 : arg25.IsWhole) (arg26 : Memref sig .tc .vmem S1x512x1024 .bf16) (harg26 : arg26.IsWhole)
    (x0 : Vec F S1x512x1024 .f32) (x1 : Vec F S1x1x1024 .f32) (x2 : Vec F S1x1x1024 .f32) (x3 : Vec F S1x1024 .f32) (x4 : Vec F S512x128 .f32) (x5 : Vec F S512x128 .f32) (x6 : Vec F S6144x1024 .bf16) (x7 : Vec F S768x1024 .bf16) (x8 : Vec F S768x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out0_9 x0 x1 x2 x3 x4 x5 x6 x7 x8) ∗ owns (c : Thread nD τ) arg12 fullShare (out0_10 x0 x1 x2 x3 x4 x5 x6 x7 x8) ∗ owns (c : Thread nD τ) arg13 fullShare (out0_11 x0 x1 x2 x3 x4 x5 x6 x7 x8) ∗ owns (c : Thread nD τ) arg14 fullShare (out0_12 x0 x1 x2 x3 x4 x5 x6 x7 x8) ∗ owns (c : Thread nD τ) arg15 fullShare (out0_13 x0 x1 x2 x3 x4 x5 x6 x7 x8) ∗ owns (c : Thread nD τ) arg16 fullShare (out0_14 x0 x1 x2 x3 x4 x5 x6 x7 x8) ∗ owns (c : Thread nD τ) arg17 fullShare (out0_15 x0 x1 x2 x3 x4 x5 x6 x7 x8) ∗ owns (c : Thread nD τ) arg18 fullShare (out0_16 x0 x1 x2 x3 x4 x5 x6 x7 x8) ∗ owns (c : Thread nD τ) arg19 fullShare (out0_17 x0 x1 x2 x3 x4 x5 x6 x7 x8) ∗ owns (c : Thread nD τ) arg20 fullShare (out0_18 x0 x1 x2 x3 x4 x5 x6 x7 x8) ∗ owns (c : Thread nD τ) arg21 fullShare (out0_19 x0 x1 x2 x3 x4 x5 x6 x7 x8) ∗ owns (c : Thread nD τ) arg22 fullShare (out0_20 x0 x1 x2 x3 x4 x5 x6 x7 x8) ∗ owns (c : Thread nD τ) arg23 fullShare (out0_21 x0 x1 x2 x3 x4 x5 x6 x7 x8) ∗ owns (c : Thread nD τ) arg24 fullShare (out0_22 x0 x1 x2 x3 x4 x5 x6 x7 x8) ∗ owns (c : Thread nD τ) arg25 fullShare (out0_23 x0 x1 x2 x3 x4 x5 x6 x7 x8) ∗ owns (c : Thread nD τ) arg26 fullShare (out0_24 x0 x1 x2 x3 x4 x5 x6 x7 x8)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _ _ _ _ _ _ _ _)).trans ?_
    rfl
  isplitl [H16]
  · iexists _; isplitr
    swap; · iexact H16
    ipureintro
    refine (View.read_writes_eq_canon _ _ _ (cover0_16 _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _ _)).trans ?_
    rfl
  isplitl [H19]
  · iexists _; isplitr
    swap; · iexact H19
    ipureintro
    refine (View.read_writes_eq_canon _ _ _ (cover0_19 _ _ _ _)).trans ?_
    rfl
  isplitl [H20]
  · iexists _; isplitr
    swap; · iexact H20
    ipureintro
    refine (View.read_writes_eq_canon _ _ _ (cover0_20 _ _ _ _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _ _)).trans ?_
    rfl
  iexists _; isplitr
  swap; · iexact H24
  ipureintro
  refine (View.read_writes_eq_canon _ _ _ (cover0_24 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
    | ⟨12, _⟩ => out0_12 (iblk m c 0 t) (iblk m c 1 t) (iblk m c 2 t) (iblk m c 3 t) (iblk m c 4 t) (iblk m c 5 t) (iblk m c 6 t) (iblk m c 7 t) (iblk m c 8 t)
    | ⟨13, _⟩ => out0_13 (iblk m c 0 t) (iblk m c 1 t) (iblk m c 2 t) (iblk m c 3 t) (iblk m c 4 t) (iblk m c 5 t) (iblk m c 6 t) (iblk m c 7 t) (iblk m c 8 t)
    | ⟨14, _⟩ => out0_14 (iblk m c 0 t) (iblk m c 1 t) (iblk m c 2 t) (iblk m c 3 t) (iblk m c 4 t) (iblk m c 5 t) (iblk m c 6 t) (iblk m c 7 t) (iblk m c 8 t)
    | ⟨15, _⟩ => out0_15 (iblk m c 0 t) (iblk m c 1 t) (iblk m c 2 t) (iblk m c 3 t) (iblk m c 4 t) (iblk m c 5 t) (iblk m c 6 t) (iblk m c 7 t) (iblk m c 8 t)
    | ⟨16, _⟩ => out0_16 (iblk m c 0 t) (iblk m c 1 t) (iblk m c 2 t) (iblk m c 3 t) (iblk m c 4 t) (iblk m c 5 t) (iblk m c 6 t) (iblk m c 7 t) (iblk m c 8 t)
    | ⟨17, _⟩ => out0_17 (iblk m c 0 t) (iblk m c 1 t) (iblk m c 2 t) (iblk m c 3 t) (iblk m c 4 t) (iblk m c 5 t) (iblk m c 6 t) (iblk m c 7 t) (iblk m c 8 t)
    | ⟨18, _⟩ => out0_18 (iblk m c 0 t) (iblk m c 1 t) (iblk m c 2 t) (iblk m c 3 t) (iblk m c 4 t) (iblk m c 5 t) (iblk m c 6 t) (iblk m c 7 t) (iblk m c 8 t)
    | ⟨19, _⟩ => out0_19 (iblk m c 0 t) (iblk m c 1 t) (iblk m c 2 t) (iblk m c 3 t) (iblk m c 4 t) (iblk m c 5 t) (iblk m c 6 t) (iblk m c 7 t) (iblk m c 8 t)
    | ⟨20, _⟩ => out0_20 (iblk m c 0 t) (iblk m c 1 t) (iblk m c 2 t) (iblk m c 3 t) (iblk m c 4 t) (iblk m c 5 t) (iblk m c 6 t) (iblk m c 7 t) (iblk m c 8 t)
    | ⟨21, _⟩ => out0_21 (iblk m c 0 t) (iblk m c 1 t) (iblk m c 2 t) (iblk m c 3 t) (iblk m c 4 t) (iblk m c 5 t) (iblk m c 6 t) (iblk m c 7 t) (iblk m c 8 t)
    | ⟨22, _⟩ => out0_22 (iblk m c 0 t) (iblk m c 1 t) (iblk m c 2 t) (iblk m c 3 t) (iblk m c 4 t) (iblk m c 5 t) (iblk m c 6 t) (iblk m c 7 t) (iblk m c 8 t)
    | ⟨23, _⟩ => out0_23 (iblk m c 0 t) (iblk m c 1 t) (iblk m c 2 t) (iblk m c 3 t) (iblk m c 4 t) (iblk m c 5 t) (iblk m c 6 t) (iblk m c 7 t) (iblk m c 8 t)
    | ⟨24, _⟩ => out0_24 (iblk m c 0 t) (iblk m c 1 t) (iblk m c 2 t) (iblk m c 3 t) (iblk m c 4 t) (iblk m c 5 t) (iblk m c 6 t) (iblk m c 7 t) (iblk m c 8 t)
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the program ends without fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2Ideal.Call

end
-- ==== Proof.ProjectionRows.lean ====
module

public import proofs.«01_k».proof.Proof.ProjectionFrame
public import proofs.«01_k».proof.Proof.Projection
public import Idealize.ShloMosaic.Lib.Pointwise
public import Idealize.ShloMosaic.Lib.Pipeline.ValueKit
public import Idealize.ShloMosaic.Lib.Pipeline.ReadBack

@[expose] public section

set_option maxRecDepth 16384

noncomputable section

/-!
What the projection's body leaves in each output window it writes, one entry at a time: a product of the modulated row with a row of
the transposed weights, rotated or gated where the layer does that.
-/

namespace Cert.Kernel2Ideal.Rows

open Cert.Kernel2Ideal Cert.Kernel2Ideal.Gen Cert.Kernel2Ideal.Call Idealize.ShloMosaic Idealize.ShloMosaic.TcCoe Idealize.SL.Sem

variable (x0 : Vec Ideal S1x512x1024 .f32) (x1 x2 : Vec Ideal S1x1x1024 .f32) (x3 : Vec Ideal S1x1024 .f32)
  (x4 x5 : Vec Ideal S512x128 .f32) (x6 : Vec Ideal S6144x1024 .bf16) (x7 x8 : Vec Ideal S768x1024 .bf16)

/-- Row `r` of the block, normalized and modulated. -/
def hid (r : Fin 512) : Fin 1024 → EReal :=
  Projection.modulated (fun k => x0 (ix3 0 r k)) (fun k => x3 (ix2 0 k)) (fun k => x1 (ix3 0 0 k)) (fun k => x2 (ix3 0 0 k))

/-- Its product with row `j` of the transposed weights. -/
def dotRow (r : Fin 512) (j : Fin 6144) : EReal := ∑ k : Fin 1024, hid x0 x1 x2 x3 r k * x6 (ix2 j k)

/-- The body's sum over features is that product. -/
theorem dotRow_of (r : Fin 512) (n : Fin 6144) (v : ℕ) (hv : v < 6144) (h : v = n.val) :
    ∑ k : Fin 1024, hid x0 x1 x2 x3 r k * x6 (ix2 ⟨v, hv⟩ k) = dotRow x0 x1 x2 x3 x6 r n := by subst h; rfl

theorem dotRow_of_row (r : Fin 512) (n : Fin 6144) (u v : ℕ) (hu : u < 512) (hv : v < 6144) (h : u = r.val) (h' : v = n.val) :
    ∑ k : Fin 1024, hid x0 x1 x2 x3 ⟨u, hu⟩ k * x6 (ix2 ⟨v, hv⟩ k) = dotRow x0 x1 x2 x3 x6 r n := by subst h; subst h'; rfl

/-- Queries. -/
theorem out9_at (r j : Fin 512) (n : Fin 6144) (hn : n.val = j.val) :
    out0_9 x0 x1 x2 x3 x4 x5 x6 x7 x8 (ix3 0 r j) = dotRow x0 x1 x2 x3 x6 r n := by
  unfold out0_9
  canon_tiles x h
  all_goals idx_vars x
  all_goals unfold_payloads
  all_goals pointwise []
  all_goals
    obtain rfl : r = x1 := Fin.ext h1
    exact dotRow_of _ _ _ _ _ _ _ _ _ (by omega)

/-- Keys, transposed. -/
theorem out10_at (r j : Fin 512) (n : Fin 6144) (hn : n.val = 512 + j.val) :
    out0_10 x0 x1 x2 x3 x4 x5 x6 x7 x8 (ix3 0 j r) = dotRow x0 x1 x2 x3 x6 r n := by
  unfold out0_10 k0_pay64
  canon_tiles x h
  all_goals idx_vars x
  all_goals unfold_payloads
  all_goals pointwise []
  all_goals
    obtain rfl : r = x2 := Fin.ext h2
    exact dotRow_of _ _ _ _ _ _ _ _ _ (by omega)

/-- Values, transposed. -/
theorem out11_at (r j : Fin 512) (n : Fin 6144) (hn : n.val = 1024 + j.val) :
    out0_11 x0 x1 x2 x3 x4 x5 x6 x7 x8 (ix3 0 j r) = dotRow x0 x1 x2 x3 x6 r n := by
  unfold out0_11 k0_pay64
  canon_tiles x h
  all_goals idx_vars x
  all_goals unfold_payloads
  all_goals pointwise []
  all_goals
    obtain rfl : r = x2 := Fin.ext h2
    exact dotRow_of _ _ _ _ _ _ _ _ _ (by omega)

/-- Keys. -/
theorem out12_at (r j : Fin 512) (n : Fin 6144) (hn : n.val = 512 + j.val) :
    out0_12 x0 x1 x2 x3 x4 x5 x6 x7 x8 (ix3 0 r j) = dotRow x0 x1 x2 x3 x6 r n := by
  unfold out0_12 k0_pay64
  canon_tiles x h
  all_goals idx_vars x
  all_goals unfold_payloads
  all_goals pointwise []
  all_goals
    obtain rfl : r = x1 := Fin.ext h1
    exact dotRow_of _ _ _ _ _ _ _ _ _ (by omega)

/-- Values in slabs of 128 tokens, transposed. -/
theorem out13_at (s : Fin 4) (r' : Fin 128) (j r : Fin 512) (hr : r.val = 128 * s.val + r'.val) (n : Fin 6144)
    (hn : n.val = 1024 + j.val) : out0_13 x0 x1 x2 x3 x4 x5 x6 x7 x8 (ix4 0 s j r') = dotRow x0 x1 x2 x3 x6 r n := by
  unfold out0_13 k0_pay64
  canon_tiles x h
  all_goals idx_vars x
  all_goals unfold_payloads
  all_goals pointwise []
  · rw [← dotRow_of_row _ _ _ _ _ r n (384 + x3.val) (1024 + x2.val) (by omega) (by omega) (by omega) (by omega)]; rfl
  · rw [← dotRow_of_row _ _ _ _ _ r n (256 + x3.val) (1024 + x2.val) (by omega) (by omega) (by omega) (by omega)]; rfl
  · rw [← dotRow_of_row _ _ _ _ _ r n (128 + x3.val) (1024 + x2.val) (by omega) (by omega) (by omega) (by omega)]; rfl
  · rw [← dotRow_of_row _ _ _ _ _ r n (x3.val) (1024 + x2.val) (by omega) (by omega) (by omega) (by omega)]; rfl

/-- The attention's gate. -/
theorem out14_at (r j : Fin 512) (n : Fin 6144) (hn : n.val = 1536 + j.val) :
    out0_14 x0 x1 x2 x3 x4 x5 x6 x7 x8 (ix3 0 r j) = Projection.silu (dotRow x0 x1 x2 x3 x6 r n) := by
  unfold out0_14 k0_pay64
  canon_tiles x h
  all_goals idx_vars x
  all_goals unfold_payloads
  all_goals pointwise []
  all_goals
    obtain rfl : r = x1 := Fin.ext h1
    exact congrArg Projection.silu (dotRow_of _ _ _ _ _ _ _ _ _ (by omega))

/-- The retention's queries, rotated: first halves. -/
theorem out19_lo (r : Fin 512) (g : Fin 2) (l : Fin 128) (j : Fin 512) (hj : j.val = 256 * g.val + l.val) (a b : Fin 6144)
    (ha : a.val = 2048 + 256 * g.val + l.val) (hb : b.val = 2048 + 256 * g.val + 128 + l.val) :
    out0_19 x0 x1 x2 x3 x4 x5 x6 x7 x8 (ix3 0 r j) = dotRow x0 x1 x2 x3 x6 r a * x4 (ix2 r l) - dotRow x0 x1 x2 x3 x6 r b * x5 (ix2 r l) := by
  unfold out0_19 k0_pay68 k0_pay67 k0_pay66 k0_pay64
  canon_tiles x h
  all_goals idx_vars x
  all_goals unfold_payloads
  all_goals pointwise []
  all_goals
    obtain rfl : r = x1 := Fin.ext h1
    obtain ⟨g, hg⟩ := g
    dsimp only at hj ha hb h2
    rcases (show g = 0 ∨ g = 1 by omega) with rfl | rfl <;> try (exfalso; omega)
    all_goals
      obtain rfl : l = x2 := Fin.ext (by omega)
      exact congrArg₂ (· - ·) (congrArg (· * _) (dotRow_of _ _ _ _ _ _ _ _ _ (by omega))) (congrArg (· * _) (dotRow_of _ _ _ _ _ _ _ _ _ (by omega)))

/-- The retention's queries, rotated: second halves. -/
theorem out19_hi (r : Fin 512) (g : Fin 2) (l : Fin 128) (j : Fin 512) (hj : j.val = 256 * g.val + 128 + l.val) (a b : Fin 6144)
    (ha : a.val = 2048 + 256 * g.val + l.val) (hb : b.val = 2048 + 256 * g.val + 128 + l.val) :
    out0_19 x0 x1 x2 x3 x4 x5 x6 x7 x8 (ix3 0 r j) = dotRow x0 x1 x2 x3 x6 r a * x5 (ix2 r l) + dotRow x0 x1 x2 x3 x6 r b * x4 (ix2 r l) := by
  unfold out0_19 k0_pay68 k0_pay67 k0_pay66 k0_pay64
  canon_tiles x h
  all_goals idx_vars x
  all_goals unfold_payloads
  all_goals pointwise []
  all_goals
    obtain rfl : r = x1 := Fin.ext h1
    obtain ⟨g, hg⟩ := g
    dsimp only at hj ha hb h2
    rcases (show g = 0 ∨ g = 1 by omega) with rfl | rfl <;> try (exfalso; omega)
    all_goals
      obtain rfl : l = x2 := Fin.ext (by omega)
      exact congrArg₂ (· + ·) (congrArg (· * _) (dotRow_of _ _ _ _ _ _ _ _ _ (by omega))) (congrArg (· * _) (dotRow_of _ _ _ _ _ _ _ _ _ (by omega)))

/-- The retention's keys, rotated: first halves. -/
theorem out20_lo (r : Fin 512) (g : Fin 2) (l : Fin 128) (j : Fin 512) (hj : j.val = 256 * g.val + l.val) (a b : Fin 6144)
    (ha : a.val = 2560 + 256 * g.val + l.val) (hb : b.val = 2560 + 256 * g.val + 128 + l.val) :
    out0_20 x0 x1 x2 x3 x4 x5 x6 x7 x8 (ix3 0 r j) = dotRow x0 x1 x2 x3 x6 r a * x4 (ix2 r l) - dotRow x0 x1 x2 x3 x6 r b * x5 (ix2 r l) := by
  unfold out0_20 k0_pay69 k0_pay67 k0_pay66 k0_pay64
  canon_tiles x h
  all_goals idx_vars x
  all_goals unfold_payloads
  all_goals pointwise []
  all_goals
    obtain rfl : r = x1 := Fin.ext h1
    obtain ⟨g, hg⟩ := g
    dsimp only at hj ha hb h2
    rcases (show g = 0 ∨ g = 1 by omega) with rfl | rfl <;> try (exfalso; omega)
    all_goals
      obtain rfl : l = x2 := Fin.ext (by omega)
      exact congrArg₂ (· - ·) (congrArg (· * _) (dotRow_of _ _ _ _ _ _ _ _ _ (by omega))) (congrArg (· * _) (dotRow_of _ _ _ _ _ _ _ _ _ (by omega)))

/-- The retention's keys, rotated: second halves. -/
theorem out20_hi (r : Fin 512) (g : Fin 2) (l : Fin 128) (j : Fin 512) (hj : j.val = 256 * g.val + 128 + l.val) (a b : Fin 6144)
    (ha : a.val = 2560 + 256 * g.val + l.val) (hb : b.val = 2560 + 256 * g.val + 128 + l.val) :
    out0_20 x0 x1 x2 x3 x4 x5 x6 x7 x8 (ix3 0 r j) = dotRow x0 x1 x2 x3 x6 r a * x5 (ix2 r l) + dotRow x0 x1 x2 x3 x6 r b * x4 (ix2 r l) := by
  unfold out0_20 k0_pay69 k0_pay67 k0_pay66 k0_pay64
  canon_tiles x h
  all_goals idx_vars x
  all_goals unfold_payloads
  all_goals pointwise []
  all_goals
    obtain rfl : r = x1 := Fin.ext h1
    obtain ⟨g, hg⟩ := g
    dsimp only at hj ha hb h2
    rcases (show g = 0 ∨ g = 1 by omega) with rfl | rfl <;> try (exfalso; omega)
    all_goals
      obtain rfl : l = x2 := Fin.ext (by omega)
      exact congrArg₂ (· + ·) (congrArg (· * _) (dotRow_of _ _ _ _ _ _ _ _ _ (by omega))) (congrArg (· * _) (dotRow_of _ _ _ _ _ _ _ _ _ (by omega)))

/-- The retention's values. -/
theorem out21_at (r j : Fin 512) (n : Fin 6144) (hn : n.val = 3072 + j.val) :
    out0_21 x0 x1 x2 x3 x4 x5 x6 x7 x8 (ix3 0 r j) = dotRow x0 x1 x2 x3 x6 r n := by
  unfold out0_21 k0_pay64
  canon_tiles x h
  all_goals idx_vars x
  all_goals unfold_payloads
  all_goals pointwise []
  all_goals
    obtain rfl : r = x1 := Fin.ext h1
    exact dotRow_of _ _ _ _ _ _ _ _ _ (by omega)

/-- The retention's gate. -/
theorem out22_at (r j : Fin 512) (n : Fin 6144) (hn : n.val = 3584 + j.val) :
    out0_22 x0 x1 x2 x3 x4 x5 x6 x7 x8 (ix3 0 r j) = Projection.silu (dotRow x0 x1 x2 x3 x6 r n) := by
  unfold out0_22 k0_pay64
  canon_tiles x h
  all_goals idx_vars x
  all_goals unfold_payloads
  all_goals pointwise []
  all_goals
    obtain rfl : r = x1 := Fin.ext h1
    exact congrArg Projection.silu (dotRow_of _ _ _ _ _ _ _ _ _ (by omega))

/-- The attention's weight in the mixture. -/
theorem out23_at (r : Fin 512) (j : Fin 1024) (n : Fin 6144) (hn : n.val = 4096 + j.val) :
    out0_23 x0 x1 x2 x3 x4 x5 x6 x7 x8 (ix3 0 r j) = Ideal.logistic (dotRow x0 x1 x2 x3 x6 r n) := by
  unfold out0_23 k0_pay64
  canon_tiles x h
  all_goals idx_vars x
  all_goals unfold_payloads
  all_goals pointwise []
  all_goals
    obtain rfl : r = x1 := Fin.ext h1
    exact congrArg Ideal.logistic (dotRow_of _ _ _ _ _ _ _ _ _ (by omega))

/-- The retention's weight in the mixture. -/
theorem out24_at (r : Fin 512) (j : Fin 1024) (n : Fin 6144) (hn : n.val = 5120 + j.val) :
    out0_24 x0 x1 x2 x3 x4 x5 x6 x7 x8 (ix3 0 r j) = Ideal.logistic (dotRow x0 x1 x2 x3 x6 r n) := by
  unfold out0_24 k0_pay64
  canon_tiles x h
  all_goals idx_vars x
  all_goals unfold_payloads
  all_goals pointwise []
  all_goals
    obtain rfl : r = x1 := Fin.ext h1
    exact congrArg Ideal.logistic (dotRow_of _ _ _ _ _ _ _ _ _ (by omega))

end Cert.Kernel2Ideal.Rows

end
-- ==== Proof.ProjectionBlocks.lean ====
module

public import proofs.«01_k».proof.Proof.ProjectionRows
public import Idealize.ShloMosaic.Lib.StableHlo.ReadAt
public import Idealize.ShloMosaic.Lib.IdealHost

@[expose] public section

set_option maxRecDepth 16384

noncomputable section

/-!
What the projection's windows hold at point `t`, block `t % 16` of batch `t / 16`: its tokens, the batch's scale and shift, the norm's
weights, the block's angles, and the weights' columns as rows, some of them scaled and some grouped by halves of heads.
-/

namespace Cert.Kernel2Ideal.Blocks

open Cert.Kernel2Ideal Cert.Kernel2Ideal.Gen Cert.Kernel2Ideal.Call Idealize.ShloMosaic Idealize.ShloMosaic.TcCoe Idealize.SL.Sem

variable (m : (ℓ : Loc nD τ sig) → Buf (Elt Ideal) ℓ) (c : Dev nD) (t : Fin cfg0.N)

theorem idx0 : win0_0.index t = ![t.val / 16, t.val % 16, 0] := by revert t; decide +kernel
theorem idx1 : win0_1.index t = ![t.val / 16, 0, 0] := by revert t; decide +kernel
theorem idx2 : win0_2.index t = ![t.val / 16, 0, 0] := by revert t; decide +kernel
theorem idx3 : win0_3.index t = ![0, 0] := by revert t; decide +kernel
theorem idx4 : win0_4.index t = ![t.val % 16, 0] := by revert t; decide +kernel
theorem idx5 : win0_5.index t = ![t.val % 16, 0] := by revert t; decide +kernel
theorem idx6 : win0_6.index t = ![0, 0] := by revert t; decide +kernel

/-- Token `r` of block `t`. -/
theorem x_at (b : Fin 2) (hb : b.val = t.val / 16) (n : Fin 8192) (r : Fin 512) (hn : n.val = 512 * (t.val % 16) + r.val) (k : Fin 1024) :
    iblk m c 0 t (ix3 0 r k) = m (c.tc.loc main_arg0) (ix3 b n k) := by
  rw [← V_main_arg0 m c]
  blk_ext [iblk, V, idx0 t]

theorem scale_at (b : Fin 2) (hb : b.val = t.val / 16) (k : Fin 1024) : iblk m c 1 t (ix3 0 0 k) = m (c.tc.loc main_arg1) (ix2 b k) := by
  have h : iblk m c 1 t (ix3 0 0 k) = V m c main_v58 (ix3 b 0 k) := by blk_ext [iblk, V, idx1 t]
  rw [h]; unfold V
  after_reads_at

theorem shift_at (b : Fin 2) (hb : b.val = t.val / 16) (k : Fin 1024) : iblk m c 2 t (ix3 0 0 k) = m (c.tc.loc main_arg2) (ix2 b k) := by
  have h : iblk m c 2 t (ix3 0 0 k) = V m c main_v59 (ix3 b 0 k) := by blk_ext [iblk, V, idx2 t]
  rw [h]; unfold V
  after_reads_at

theorem norm_at (k : Fin 1024) : iblk m c 3 t (ix2 0 k) = m (c.tc.loc main_arg3) (ix1 k) := by
  have h : iblk m c 3 t (ix2 0 k) = V m c main_v60 (ix2 0 k) := by blk_ext [iblk, V, idx3 t]
  rw [h]; unfold V
  after_reads_at

theorem cos_at (n : Fin 8192) (r : Fin 512) (hn : n.val = 512 * (t.val % 16) + r.val) (l : Fin 128) :
    iblk m c 4 t (ix2 r l) = Ideal.cos (Projection.angle n ⟨l.val % 32, by omega⟩) := by
  have h : iblk m c 4 t (ix2 r l) = V m c main_v16 (ix2 n l) := by blk_ext [iblk, V, idx4 t]
  rw [h]; unfold V
  after_reads_at
  pointwise []
  rfl

theorem sin_at (n : Fin 8192) (r : Fin 512) (hn : n.val = 512 * (t.val % 16) + r.val) (l : Fin 128) :
    iblk m c 5 t (ix2 r l) = Ideal.sin (Projection.angle n ⟨l.val % 32, by omega⟩) := by
  have h : iblk m c 5 t (ix2 r l) = V m c main_v20 (ix2 n l) := by blk_ext [iblk, V, idx5 t]
  rw [h]; unfold V
  after_reads_at
  pointwise []
  rfl

/-- The weights, as the call is given them. -/
def wIn (k : Fin 1024) (q : Fin 6468) : EReal := m (c.tc.loc main_arg4) (ix2 k q)

/-- One of the ten arrays laid one below the other in the weights' window. -/
def part (b : Ref sig .tc) : Buf (Elt Ideal) ((c.tc : Thread nD τ).loc b) :=
  StableHlo.upto [hostOps0].flatten (fun b => m (c, b)) 46 (Proc.tc.devRef b)

/-- The window's row `n` lies in one of them. -/
theorem rows_at (n : Fin 6144) (k : Fin 1024) (R : EReal) (hR : R =
    if h : n.val < 512 then part m c main_v24 (ix2 ⟨n.val, h⟩ k) else
    if h : n.val - 512 < 512 then part m c main_v25 (ix2 ⟨n.val - 512, h⟩ k) else
    if h : n.val - 512 - 512 < 512 then part m c main_v26 (ix2 ⟨n.val - 512 - 512, h⟩ k) else
    if h : n.val - 512 - 512 - 512 < 512 then part m c main_v27 (ix2 ⟨n.val - 512 - 512 - 512, h⟩ k) else
    if h : n.val - 512 - 512 - 512 - 512 < 512 then part m c main_v31 (ix2 ⟨n.val - 512 - 512 - 512 - 512, h⟩ k) else
    if h : n.val - 512 - 512 - 512 - 512 - 512 < 512 then part m c main_v37 (ix2 ⟨n.val - 512 - 512 - 512 - 512 - 512, h⟩ k) else
    if h : n.val - 512 - 512 - 512 - 512 - 512 - 512 < 512 then part m c main_v38 (ix2 ⟨n.val - 512 - 512 - 512 - 512 - 512 - 512, h⟩ k) else
    if h : n.val - 512 - 512 - 512 - 512 - 512 - 512 - 512 < 512 then part m c main_v39 (ix2 ⟨n.val - 512 - 512 - 512 - 512 - 512 - 512 - 512, h⟩ k) else
    if h : n.val - 512 - 512 - 512 - 512 - 512 - 512 - 512 - 512 < 1024 then part m c main_v40 (ix2 ⟨n.val - 512 - 512 - 512 - 512 - 512 - 512 - 512 - 512, h⟩ k) else
    part m c main_v41 (ix2 ⟨n.val - 512 - 512 - 512 - 512 - 512 - 512 - 512 - 512 - 1024, by omega⟩ k)) :
    iblk m c 6 t (ix2 n k) = R := by
  have h : iblk m c 6 t (ix2 n k) = V m c main_v43 (ix2 n k) := by blk_ext [iblk, V, idx6 t]
  rw [h]; unfold V
  after_reads_at
  pointwise []
  exact hR.symm

/-- Queries, with the softmax's factor. -/
theorem weight0_at (j : Fin 512) (n : Fin 6144) (hn : n.val = j.val) (k : Fin 1024) :
    iblk m c 6 t (ix2 n k) = wIn m c k ⟨j.val, by omega⟩ * Ideal.ofBits FTy.f32 0x3E38AA3B#32 := by
  rw [rows_at m c t n k _ rfl, dif_pos (by omega)]
  simp only [show n.val = j.val by omega, part]
  after_reads_at
  pointwise []
  rfl

/-- Keys. -/
theorem weight1_at (j : Fin 512) (n : Fin 6144) (hn : n.val = 512 + j.val) (k : Fin 1024) :
    iblk m c 6 t (ix2 n k) = wIn m c k ⟨512 + j.val, by omega⟩ := by
  rw [rows_at m c t n k _ rfl, dif_neg (by omega), dif_pos (by omega)]
  simp only [show n.val - 512 = j.val by omega, part]
  after_reads_at
  pointwise []
  rfl

/-- Values. -/
theorem weight2_at (j : Fin 512) (n : Fin 6144) (hn : n.val = 1024 + j.val) (k : Fin 1024) :
    iblk m c 6 t (ix2 n k) = wIn m c k ⟨1024 + j.val, by omega⟩ := by
  rw [rows_at m c t n k _ rfl, dif_neg (by omega), dif_neg (by omega), dif_pos (by omega)]
  simp only [show n.val - 512 - 512 = j.val by omega, part]
  after_reads_at
  pointwise []
  rfl

/-- The attention's gate. -/
theorem weight3_at (j : Fin 512) (n : Fin 6144) (hn : n.val = 1536 + j.val) (k : Fin 1024) :
    iblk m c 6 t (ix2 n k) = wIn m c k ⟨1536 + j.val, by omega⟩ := by
  rw [rows_at m c t n k _ rfl, dif_neg (by omega), dif_neg (by omega), dif_neg (by omega), dif_pos (by omega)]
  simp only [show n.val - 512 - 512 - 512 = j.val by omega, part]
  after_reads_at
  pointwise []
  rfl

/-- The retention's queries, grouped. -/
theorem weight4_at (j : Fin 512) (n : Fin 6144) (hn : n.val = 2048 + j.val) (k : Fin 1024) :
    iblk m c 6 t (ix2 n k) = wIn m c k ⟨2372 + (Projection.ungroup j).val, by omega⟩ := by
  rw [rows_at m c t n k _ rfl, dif_neg (by omega), dif_neg (by omega), dif_neg (by omega), dif_neg (by omega), dif_pos (by omega)]
  simp only [show n.val - 512 - 512 - 512 - 512 = j.val by omega, part]
  after_reads_at
  pointwise []
  rfl

/-- The retention's keys, grouped, with their factor. -/
theorem weight5_at (j : Fin 512) (n : Fin 6144) (hn : n.val = 2560 + j.val) (k : Fin 1024) :
    iblk m c 6 t (ix2 n k) = wIn m c k ⟨2884 + (Projection.ungroup j).val, by omega⟩ * Ideal.ofBits FTy.f32 0x3E000000#32 := by
  rw [rows_at m c t n k _ rfl, dif_neg (by omega), dif_neg (by omega), dif_neg (by omega), dif_neg (by omega), dif_neg (by omega), dif_pos (by omega)]
  simp only [show n.val - 512 - 512 - 512 - 512 - 512 = j.val by omega, part]
  after_reads_at
  pointwise []
  rfl

/-- The retention's values. -/
theorem weight6_at (j : Fin 512) (n : Fin 6144) (hn : n.val = 3072 + j.val) (k : Fin 1024) :
    iblk m c 6 t (ix2 n k) = wIn m c k ⟨3396 + j.val, by omega⟩ := by
  rw [rows_at m c t n k _ rfl, dif_neg (by omega), dif_neg (by omega), dif_neg (by omega), dif_neg (by omega), dif_neg (by omega), dif_neg (by omega), dif_pos (by omega)]
  simp only [show n.val - 512 - 512 - 512 - 512 - 512 - 512 = j.val by omega, part]
  after_reads_at
  pointwise []
  rfl

/-- The retention's gate. -/
theorem weight7_at (j : Fin 512) (n : Fin 6144) (hn : n.val = 3584 + j.val) (k : Fin 1024) :
    iblk m c 6 t (ix2 n k) = wIn m c k ⟨3908 + j.val, by omega⟩ := by
  rw [rows_at m c t n k _ rfl, dif_neg (by omega), dif_neg (by omega), dif_neg (by omega), dif_neg (by omega), dif_neg (by omega), dif_neg (by omega), dif_neg (by omega), dif_pos (by omega)]
  simp only [show n.val - 512 - 512 - 512 - 512 - 512 - 512 - 512 = j.val by omega, part]
  after_reads_at
  pointwise []
  rfl

/-- The attention's weight in the mixture. -/
theorem weight8_at (j : Fin 1024) (n : Fin 6144) (hn : n.val = 4096 + j.val) (k : Fin 1024) :
    iblk m c 6 t (ix2 n k) = wIn m c k ⟨4420 + j.val, by omega⟩ := by
  rw [rows_at m c t n k _ rfl, dif_neg (by omega), dif_neg (by omega), dif_neg (by omega), dif_neg (by omega), dif_neg (by omega), dif_neg (by omega), dif_neg (by omega), dif_neg (by omega), dif_pos (by omega)]
  simp only [show n.val - 512 - 512 - 512 - 512 - 512 - 512 - 512 - 512 = j.val by omega, part]
  after_reads_at
  pointwise []
  rfl

/-- The retention's weight in the mixture. -/
theorem weight9_at (j : Fin 1024) (n : Fin 6144) (hn : n.val = 5120 + j.val) (k : Fin 1024) :
    iblk m c 6 t (ix2 n k) = wIn m c k ⟨5444 + j.val, by omega⟩ := by
  rw [rows_at m c t n k _ rfl, dif_neg (by omega), dif_neg (by omega), dif_neg (by omega), dif_neg (by omega), dif_neg (by omega), dif_neg (by omega), dif_neg (by omega), dif_neg (by omega), dif_neg (by omega)]
  simp only [show n.val - 512 - 512 - 512 - 512 - 512 - 512 - 512 - 512 - 1024 = j.val by omega, part]
  after_reads_at
  pointwise []
  rfl

end Cert.Kernel2Ideal.Blocks

end
-- ==== Proof.ProjectionArrays.lean ====
module

public import proofs.«01_k».proof.Proof.ProjectionBlocks

@[expose] public section

set_option maxRecDepth 16384

noncomputable section

/-!
The arrays the projection leaves. Block `t % 16` of batch `t / 16` is point `t`'s, so token `n` of batch `i` is row `n % 512` of point
`16 i + n / 512`; every array's entry is the token's projected row at a column, or what the factor, the rotation or the gate makes of it.
-/

namespace Cert.Kernel2Ideal.Arrays

open Cert.Kernel2Ideal Cert.Kernel2Ideal.Gen Cert.Kernel2Ideal.Call Cert.Kernel2Ideal.Blocks Cert.Kernel2Ideal.Rows
open Idealize.ShloMosaic Idealize.ShloMosaic.TcCoe Idealize.SL.Sem

variable (m : (ℓ : Loc nD τ sig) → Buf (Elt Ideal) ℓ) (c : Dev nD)

/-- The projected rows' entries, from the arguments. -/
def entries : Fin 2 → Fin 8192 → Fin 6468 → EReal :=
  Projection.projected (fun i n k => m (c.tc.loc main_arg0) (ix3 i n k)) (fun i k => m (c.tc.loc main_arg1) (ix2 i k))
    (fun i k => m (c.tc.loc main_arg2) (ix2 i k)) (fun k => m (c.tc.loc main_arg3) (ix1 k)) (fun k q => m (c.tc.loc main_arg4) (ix2 k q))

theorem point_lt (t : Fin cfg0.N) : t.val < 32 := N_0 ▸ t.isLt

/-- Point `t`'s batch, and its block's token `r`. -/
def batch (t : Fin cfg0.N) : Fin 2 := ⟨t.val / 16, by have := point_lt t; omega⟩
def token (t : Fin cfg0.N) (r : Fin 512) : Fin 8192 := ⟨512 * (t.val % 16) + r.val, by omega⟩

variable (t : Fin cfg0.N)

theorem hid_at (r : Fin 512) (k : Fin 1024) :
    hid (iblk m c 0 t) (iblk m c 1 t) (iblk m c 2 t) (iblk m c 3 t) r k
      = Projection.modulated (fun k => m (c.tc.loc main_arg0) (ix3 (batch t) (token t r) k)) (fun k => m (c.tc.loc main_arg3) (ix1 k))
          (fun k => m (c.tc.loc main_arg1) (ix2 (batch t) k)) (fun k => m (c.tc.loc main_arg2) (ix2 (batch t) k)) k := by
  unfold hid
  simp only [x_at m c t (batch t) rfl (token t r) r rfl, scale_at m c t (batch t) rfl, shift_at m c t (batch t) rfl, norm_at]

/-- A row of the weights' window that is column `q` makes the row's entry at `q`. -/
theorem dot_at (r : Fin 512) (n : Fin 6144) (q : Fin 6468) (h : ∀ k, iblk m c 6 t (ix2 n k) = wIn m c k q) :
    dotRow (iblk m c 0 t) (iblk m c 1 t) (iblk m c 2 t) (iblk m c 3 t) (iblk m c 6 t) r n = entries m c (batch t) (token t r) q := by
  unfold dotRow entries Projection.projected
  simp only [hid_at, h]
  rfl

/-- One that is a multiple of column `q` makes the entry's multiple. -/
theorem dot_scaled (r : Fin 512) (n : Fin 6144) (q : Fin 6468) (s : EReal) (h0 : 0 ≤ s) (h1 : s ≠ ⊤)
    (h : ∀ k, iblk m c 6 t (ix2 n k) = wIn m c k q * s) :
    dotRow (iblk m c 0 t) (iblk m c 1 t) (iblk m c 2 t) (iblk m c 3 t) (iblk m c 6 t) r n = entries m c (batch t) (token t r) q * s := by
  unfold dotRow
  simp only [hid_at, h]
  exact Projection.product_scaled _ _ s h0 h1

theorem idx9 : win0_9.index t = ![t.val / 16, t.val % 16, 0] := by revert t; decide +kernel
theorem idx10 : win0_10.index t = ![t.val / 16, 0, t.val % 16] := by revert t; decide +kernel
theorem idx11 : win0_11.index t = ![t.val / 16, 0, t.val % 16] := by revert t; decide +kernel
theorem idx12 : win0_12.index t = ![t.val / 16, t.val % 16, 0] := by revert t; decide +kernel
theorem idx13 : win0_13.index t = ![t.val / 16, t.val % 16, 0, 0] := by revert t; decide +kernel
theorem idx14 : win0_14.index t = ![t.val / 16, t.val % 16, 0] := by revert t; decide +kernel
theorem idx21 : win0_21.index t = ![t.val / 16, t.val % 16, 0] := by revert t; decide +kernel
theorem idx22 : win0_22.index t = ![t.val / 16, t.val % 16, 0] := by revert t; decide +kernel
theorem idx23 : win0_23.index t = ![t.val / 16, t.val % 16, 0] := by revert t; decide +kernel
theorem idx24 : win0_24.index t = ![t.val / 16, t.val % 16, 0] := by revert t; decide +kernel

/-- Queries, times the softmax's factor. -/
def queries : FVec Ideal S2x8192x512 .bf16 :=
  fun x => entries m c (x 0) (x 1) ⟨(x 2).val, by have : (x 2).val < 512 := (x 2).isLt; omega⟩ * Ideal.ofBits FTy.f32 0x3E38AA3B#32

theorem queries_array : (dats m 0 c).arrAt 9 (cfgs 0).N = queries m c := by
  refine (dats m 0 c).arrAt_eq_of_covers 9 _ (by decide +kernel) fun t hf y => ?_
  blk_simp
  rw [after0_9]
  idx_vars y
  have e : ((View.whole main_v61_0).slice (win0_9.rect t)).emb (ix3 y0 y1 y2) = ix3 (batch t) (token t y1) y2 := by
    have ht := point_lt t
    funext a
    fin_cases a <;> exact Fin.ext (by blk_simp [idx9 t]; simp [batch, token]; try omega)
  rw [e]
  obtain rfl : y0 = 0 := Fin.ext (by omega)
  refine (out9_at _ _ _ _ _ _ _ _ _ y1 y2 ⟨y2.val, by omega⟩ rfl).trans ?_
  exact dot_scaled m c t y1 _ _ _ Projection.query_factor_nonneg Projection.query_factor_ne_top (weight0_at m c t y2 ⟨y2.val, by omega⟩ rfl)

/-- Keys, feature by token. -/
def keys : FVec Ideal S2x512x8192 .f32 := fun x => entries m c (x 0) (x 2) ⟨512 + (x 1).val, by have : (x 1).val < 512 := (x 1).isLt; omega⟩

theorem keys_array : (dats m 0 c).arrAt 10 (cfgs 0).N = keys m c := by
  refine (dats m 0 c).arrAt_eq_of_covers 10 _ (by decide +kernel) fun t hf y => ?_
  blk_simp
  rw [after0_10]
  idx_vars y
  have e : ((View.whole main_v61_1).slice (win0_10.rect t)).emb (ix3 y0 y1 y2) = ix3 (batch t) y1 (token t y2) := by
    have ht := point_lt t
    funext a
    fin_cases a <;> exact Fin.ext (by blk_simp [idx10 t]; simp [batch, token]; try omega)
  rw [e]
  obtain rfl : y0 = 0 := Fin.ext (by omega)
  exact (out10_at _ _ _ _ _ _ _ _ _ y2 y1 ⟨512 + y1.val, by omega⟩ rfl).trans
    (dot_at m c t y2 _ _ (weight1_at m c t y1 ⟨512 + y1.val, by omega⟩ rfl))

/-- Values, feature by token. -/
def values : FVec Ideal S2x512x8192 .f32 :=
  fun x => entries m c (x 0) (x 2) ⟨1024 + (x 1).val, by have : (x 1).val < 512 := (x 1).isLt; omega⟩

theorem values_array : (dats m 0 c).arrAt 11 (cfgs 0).N = values m c := by
  refine (dats m 0 c).arrAt_eq_of_covers 11 _ (by decide +kernel) fun t hf y => ?_
  blk_simp
  rw [after0_11]
  idx_vars y
  have e : ((View.whole main_v61_2).slice (win0_11.rect t)).emb (ix3 y0 y1 y2) = ix3 (batch t) y1 (token t y2) := by
    have ht := point_lt t
    funext a
    fin_cases a <;> exact Fin.ext (by blk_simp [idx11 t]; simp [batch, token]; try omega)
  rw [e]
  obtain rfl : y0 = 0 := Fin.ext (by omega)
  exact (out11_at _ _ _ _ _ _ _ _ _ y2 y1 ⟨1024 + y1.val, by omega⟩ rfl).trans
    (dot_at m c t y2 _ _ (weight2_at m c t y1 ⟨1024 + y1.val, by omega⟩ rfl))

/-- Keys. -/
def lowKeys : FVec Ideal S2x8192x512 .bf16 :=
  fun x => entries m c (x 0) (x 1) ⟨512 + (x 2).val, by have : (x 2).val < 512 := (x 2).isLt; omega⟩

theorem lowKeys_array : (dats m 0 c).arrAt 12 (cfgs 0).N = lowKeys m c := by
  refine (dats m 0 c).arrAt_eq_of_covers 12 _ (by decide +kernel) fun t hf y => ?_
  blk_simp
  rw [after0_12]
  idx_vars y
  have e : ((View.whole main_v61_3).slice (win0_12.rect t)).emb (ix3 y0 y1 y2) = ix3 (batch t) (token t y1) y2 := by
    have ht := point_lt t
    funext a
    fin_cases a <;> exact Fin.ext (by blk_simp [idx12 t]; simp [batch, token]; try omega)
  rw [e]
  obtain rfl : y0 = 0 := Fin.ext (by omega)
  refine (out12_at _ _ _ _ _ _ _ _ _ y1 y2 ⟨512 + y2.val, by omega⟩ rfl).trans ?_
  exact dot_at m c t y1 _ _ (weight1_at m c t y2 ⟨512 + y2.val, by omega⟩ rfl)

/-- Values by slabs of 128 tokens, feature by token. -/
def slabs : FVec Ideal S2x64x512x128 .bf16 := fun x => entries m c (x 0)
  ⟨(x 1).val * 128 + (x 3).val, by have : (x 1).val < 64 := (x 1).isLt; have : (x 3).val < 128 := (x 3).isLt; omega⟩
  ⟨1024 + (x 2).val, by have : (x 2).val < 512 := (x 2).isLt; omega⟩

theorem slabs_array : (dats m 0 c).arrAt 13 (cfgs 0).N = slabs m c := by
  refine (dats m 0 c).arrAt_eq_of_covers 13 _ (by decide +kernel) fun t hf y => ?_
  blk_simp
  rw [after0_13]
  idx_vars y
  have ht := point_lt t
  have e : ((View.whole main_v61_4).slice (win0_13.rect t)).emb (ix4 y0 y1 y2 y3) = ix4 (batch t) ⟨4 * (t.val % 16) + y1.val, by omega⟩ y2 y3 := by
    funext a
    fin_cases a <;> exact Fin.ext (by blk_simp [idx13 t]; simp [batch]; try omega)
  rw [e]
  obtain rfl : y0 = 0 := Fin.ext (by omega)
  have en : token t ⟨128 * y1.val + y3.val, by omega⟩ = ⟨(4 * (t.val % 16) + y1.val) * 128 + y3.val, by omega⟩ :=
    Fin.ext (by simp only [token]; omega)
  refine ((out13_at _ _ _ _ _ _ _ _ _ y1 y3 y2 ⟨128 * y1.val + y3.val, by omega⟩ rfl ⟨1024 + y2.val, by omega⟩ rfl).trans
    (dot_at m c t _ _ _ (weight2_at m c t y2 ⟨1024 + y2.val, by omega⟩ rfl))).trans ?_
  rw [en]
  rfl

/-- The attention's gate. -/
def gate : FVec Ideal S2x8192x512 .bf16 :=
  fun x => Projection.silu (entries m c (x 0) (x 1) ⟨1536 + (x 2).val, by have : (x 2).val < 512 := (x 2).isLt; omega⟩)

theorem gate_array : (dats m 0 c).arrAt 14 (cfgs 0).N = gate m c := by
  refine (dats m 0 c).arrAt_eq_of_covers 14 _ (by decide +kernel) fun t hf y => ?_
  blk_simp
  rw [after0_14]
  idx_vars y
  have e : ((View.whole main_v61_5).slice (win0_14.rect t)).emb (ix3 y0 y1 y2) = ix3 (batch t) (token t y1) y2 := by
    have ht := point_lt t
    funext a
    fin_cases a <;> exact Fin.ext (by blk_simp [idx14 t]; simp [batch, token]; try omega)
  rw [e]
  obtain rfl : y0 = 0 := Fin.ext (by omega)
  refine (out14_at _ _ _ _ _ _ _ _ _ y1 y2 ⟨1536 + y2.val, by omega⟩ rfl).trans ?_
  exact congrArg Projection.silu (dot_at m c t y1 _ _ (weight3_at m c t y2 ⟨1536 + y2.val, by omega⟩ rfl))

/-- The retention's values. -/
def turnedValues : FVec Ideal S2x8192x512 .bf16 :=
  fun x => entries m c (x 0) (x 1) ⟨3396 + (x 2).val, by have : (x 2).val < 512 := (x 2).isLt; omega⟩

theorem turnedValues_array : (dats m 0 c).arrAt 21 (cfgs 0).N = turnedValues m c := by
  refine (dats m 0 c).arrAt_eq_of_covers 21 _ (by decide +kernel) fun t hf y => ?_
  blk_simp
  rw [after0_21]
  idx_vars y
  have e : ((View.whole main_v61_12).slice (win0_21.rect t)).emb (ix3 y0 y1 y2) = ix3 (batch t) (token t y1) y2 := by
    have ht := point_lt t
    funext a
    fin_cases a <;> exact Fin.ext (by blk_simp [idx21 t]; simp [batch, token]; try omega)
  rw [e]
  obtain rfl : y0 = 0 := Fin.ext (by omega)
  refine (out21_at _ _ _ _ _ _ _ _ _ y1 y2 ⟨3072 + y2.val, by omega⟩ rfl).trans ?_
  exact dot_at m c t y1 _ _ (weight6_at m c t y2 ⟨3072 + y2.val, by omega⟩ rfl)

/-- The retention's gate. -/
def turnedGate : FVec Ideal S2x8192x512 .bf16 :=
  fun x => Projection.silu (entries m c (x 0) (x 1) ⟨3908 + (x 2).val, by have : (x 2).val < 512 := (x 2).isLt; omega⟩)

theorem turnedGate_array : (dats m 0 c).arrAt 22 (cfgs 0).N = turnedGate m c := by
  refine (dats m 0 c).arrAt_eq_of_covers 22 _ (by decide +kernel) fun t hf y => ?_
  blk_simp
  rw [after0_22]
  idx_vars y
  have e : ((View.whole main_v61_13).slice (win0_22.rect t)).emb (ix3 y0 y1 y2) = ix3 (batch t) (token t y1) y2 := by
    have ht := point_lt t
    funext a
    fin_cases a <;> exact Fin.ext (by blk_simp [idx22 t]; simp [batch, token]; try omega)
  rw [e]
  obtain rfl : y0 = 0 := Fin.ext (by omega)
  refine (out22_at _ _ _ _ _ _ _ _ _ y1 y2 ⟨3584 + y2.val, by omega⟩ rfl).trans ?_
  exact congrArg Projection.silu (dot_at m c t y1 _ _ (weight7_at m c t y2 ⟨3584 + y2.val, by omega⟩ rfl))

/-- The attention's weight in the mixture. -/
def mix : FVec Ideal S2x8192x1024 .bf16 :=
  fun x => Ideal.logistic (entries m c (x 0) (x 1) ⟨4420 + (x 2).val, by have : (x 2).val < 1024 := (x 2).isLt; omega⟩)

theorem mix_array : (dats m 0 c).arrAt 23 (cfgs 0).N = mix m c := by
  refine (dats m 0 c).arrAt_eq_of_covers 23 _ (by decide +kernel) fun t hf y => ?_
  blk_simp
  rw [after0_23]
  idx_vars y
  have e : ((View.whole main_v61_14).slice (win0_23.rect t)).emb (ix3 y0 y1 y2) = ix3 (batch t) (token t y1) y2 := by
    have ht := point_lt t
    funext a
    fin_cases a <;> exact Fin.ext (by blk_simp [idx23 t]; simp [batch, token]; try omega)
  rw [e]
  obtain rfl : y0 = 0 := Fin.ext (by omega)
  refine (out23_at _ _ _ _ _ _ _ _ _ y1 y2 ⟨4096 + y2.val, by omega⟩ rfl).trans ?_
  exact congrArg Ideal.logistic (dot_at m c t y1 _ _ (weight8_at m c t y2 ⟨4096 + y2.val, by omega⟩ rfl))

/-- The retention's weight in the mixture. -/
def turnedMix : FVec Ideal S2x8192x1024 .bf16 :=
  fun x => Ideal.logistic (entries m c (x 0) (x 1) ⟨5444 + (x 2).val, by have : (x 2).val < 1024 := (x 2).isLt; omega⟩)

theorem turnedMix_array : (dats m 0 c).arrAt 24 (cfgs 0).N = turnedMix m c := by
  refine (dats m 0 c).arrAt_eq_of_covers 24 _ (by decide +kernel) fun t hf y => ?_
  blk_simp
  rw [after0_24]
  idx_vars y
  have e : ((View.whole main_v61_15).slice (win0_24.rect t)).emb (ix3 y0 y1 y2) = ix3 (batch t) (token t y1) y2 := by
    have ht := point_lt t
    funext a
    fin_cases a <;> exact Fin.ext (by blk_simp [idx24 t]; simp [batch, token]; try omega)
  rw [e]
  obtain rfl : y0 = 0 := Fin.ext (by omega)
  refine (out24_at _ _ _ _ _ _ _ _ _ y1 y2 ⟨5120 + y2.val, by omega⟩ rfl).trans ?_
  exact congrArg Ideal.logistic (dot_at m c t y1 _ _ (weight9_at m c t y2 ⟨5120 + y2.val, by omega⟩ rfl))

end Cert.Kernel2Ideal.Arrays

end
-- ==== Proof.ProjectionTurned.lean ====
module

public import proofs.«01_k».proof.Proof.ProjectionArrays

@[expose] public section

set_option maxRecDepth 16384

noncomputable section

/-!
The rotated queries and keys the projection leaves: of a group's 256 rows of the weights' window the first 128 and the second 128 are the
columns the rotation turns into each other.
-/

namespace Cert.Kernel2Ideal.Arrays

open Cert.Kernel2Ideal Cert.Kernel2Ideal.Gen Cert.Kernel2Ideal.Call Cert.Kernel2Ideal.Blocks Cert.Kernel2Ideal.Rows
open Idealize.ShloMosaic Idealize.ShloMosaic.TcCoe Idealize.SL.Sem

variable (m : (ℓ : Loc nD τ sig) → Buf (Elt Ideal) ℓ) (c : Dev nD) (t : Fin cfg0.N)

theorem idx19 : win0_19.index t = ![t.val / 16, t.val % 16, 0] := by revert t; decide +kernel
theorem idx20 : win0_20.index t = ![t.val / 16, t.val % 16, 0] := by revert t; decide +kernel

/-- The two rows of a group of the weights' window that feature `j` is made of are the columns the rotation turns into each other. -/
def firstRow (j : Fin 512) : Fin 512 := ⟨j.val / 256 * 256 + j.val % 128, by omega⟩
def secondRow (j : Fin 512) : Fin 512 := ⟨j.val / 256 * 256 + j.val % 128 + 128, by omega⟩

theorem ungroup_first (j : Fin 512) : (Projection.ungroup (firstRow j)).val = j.val / 256 * 256 + j.val / 32 % 4 * 64 + j.val % 32 := by
  simp only [Projection.ungroup, firstRow]; omega

theorem ungroup_second (j : Fin 512) : (Projection.ungroup (secondRow j)).val = j.val / 256 * 256 + j.val / 32 % 4 * 64 + j.val % 32 + 32 := by
  simp only [Projection.ungroup, secondRow]; omega

theorem cos_token (r j : Fin 512) :
    iblk m c 4 t (ix2 r ⟨j.val % 128, by omega⟩) = Ideal.cos (Projection.angle (token t r) ⟨j.val % 32, by omega⟩) := by
  rw [cos_at m c t (token t r) r rfl]
  congr 3
  show j.val % 128 % 32 = j.val % 32
  omega

theorem sin_token (r j : Fin 512) :
    iblk m c 5 t (ix2 r ⟨j.val % 128, by omega⟩) = Ideal.sin (Projection.angle (token t r) ⟨j.val % 32, by omega⟩) := by
  rw [sin_at m c t (token t r) r rfl]
  congr 3
  show j.val % 128 % 32 = j.val % 32
  omega

theorem query_first (r j : Fin 512) :
    dotRow (iblk m c 0 t) (iblk m c 1 t) (iblk m c 2 t) (iblk m c 3 t) (iblk m c 6 t) r ⟨2048 + (firstRow j).val, by omega⟩
      = entries m c (batch t) (token t r) ⟨2372 + (j.val / 256 * 256 + j.val / 32 % 4 * 64 + j.val % 32), by omega⟩ := by
  rw [dot_at m c t r _ _ (weight4_at m c t (firstRow j) _ rfl)]
  simp only [ungroup_first]

theorem query_second (r j : Fin 512) :
    dotRow (iblk m c 0 t) (iblk m c 1 t) (iblk m c 2 t) (iblk m c 3 t) (iblk m c 6 t) r ⟨2048 + (secondRow j).val, by omega⟩
      = entries m c (batch t) (token t r) ⟨2372 + (j.val / 256 * 256 + j.val / 32 % 4 * 64 + j.val % 32 + 32), by omega⟩ := by
  rw [dot_at m c t r _ _ (weight4_at m c t (secondRow j) _ rfl)]
  simp only [ungroup_second]

theorem key_first (r j : Fin 512) :
    dotRow (iblk m c 0 t) (iblk m c 1 t) (iblk m c 2 t) (iblk m c 3 t) (iblk m c 6 t) r ⟨2560 + (firstRow j).val, by omega⟩
      = entries m c (batch t) (token t r) ⟨2884 + (j.val / 256 * 256 + j.val / 32 % 4 * 64 + j.val % 32), by omega⟩
        * Ideal.ofBits FTy.f32 0x3E000000#32 := by
  rw [dot_scaled m c t r _ _ _ Projection.key_factor_nonneg Projection.key_factor_ne_top (weight5_at m c t (firstRow j) _ rfl)]
  simp only [ungroup_first]

theorem key_second (r j : Fin 512) :
    dotRow (iblk m c 0 t) (iblk m c 1 t) (iblk m c 2 t) (iblk m c 3 t) (iblk m c 6 t) r ⟨2560 + (secondRow j).val, by omega⟩
      = entries m c (batch t) (token t r) ⟨2884 + (j.val / 256 * 256 + j.val / 32 % 4 * 64 + j.val % 32 + 32), by omega⟩
        * Ideal.ofBits FTy.f32 0x3E000000#32 := by
  rw [dot_scaled m c t r _ _ _ Projection.key_factor_nonneg Projection.key_factor_ne_top (weight5_at m c t (secondRow j) _ rfl)]
  simp only [ungroup_second]

theorem query_block (r j : Fin 512) :
    out0_19 (iblk m c 0 t) (iblk m c 1 t) (iblk m c 2 t) (iblk m c 3 t) (iblk m c 4 t) (iblk m c 5 t) (iblk m c 6 t) (iblk m c 7 t) (iblk m c 8 t)
        (ix3 0 r j) = Projection.turned (entries m c (batch t) (token t r)) 2372 (by omega) (token t r) j := by
  unfold Projection.turned
  by_cases h : j.val % 256 < 128
  · rw [if_pos h, ← query_first, ← query_second, ← cos_token m c, ← sin_token m c]
    exact out19_lo _ _ _ _ _ _ _ _ _ r ⟨j.val / 256, by omega⟩ ⟨j.val % 128, by omega⟩ j (by simp only []; omega) _ _
      (by simp only [firstRow]; omega) (by simp only [secondRow]; omega)
  · rw [if_neg h, ← query_first, ← query_second, ← cos_token m c, ← sin_token m c]
    exact out19_hi _ _ _ _ _ _ _ _ _ r ⟨j.val / 256, by omega⟩ ⟨j.val % 128, by omega⟩ j (by simp only []; omega) _ _
      (by simp only [firstRow]; omega) (by simp only [secondRow]; omega)

theorem key_block (r j : Fin 512) :
    out0_20 (iblk m c 0 t) (iblk m c 1 t) (iblk m c 2 t) (iblk m c 3 t) (iblk m c 4 t) (iblk m c 5 t) (iblk m c 6 t) (iblk m c 7 t) (iblk m c 8 t)
        (ix3 0 r j) = Projection.turned (entries m c (batch t) (token t r)) 2884 (by omega) (token t r) j * Ideal.ofBits FTy.f32 0x3E000000#32 := by
  unfold Projection.turned
  by_cases h : j.val % 256 < 128
  · rw [if_pos h, ← Projection.rotated_scaled _ _ _ _ _ Projection.key_factor_nonneg Projection.key_factor_ne_top,
      ← key_first, ← key_second, ← cos_token m c, ← sin_token m c]
    exact out20_lo _ _ _ _ _ _ _ _ _ r ⟨j.val / 256, by omega⟩ ⟨j.val % 128, by omega⟩ j (by simp only []; omega) _ _
      (by simp only [firstRow]; omega) (by simp only [secondRow]; omega)
  · rw [if_neg h, ← Projection.rotated_scaled' _ _ _ _ _ Projection.key_factor_nonneg Projection.key_factor_ne_top,
      ← key_first, ← key_second, ← cos_token m c, ← sin_token m c]
    exact out20_hi _ _ _ _ _ _ _ _ _ r ⟨j.val / 256, by omega⟩ ⟨j.val % 128, by omega⟩ j (by simp only []; omega) _ _
      (by simp only [firstRow]; omega) (by simp only [secondRow]; omega)

/-- The retention's queries, rotated, grouped. -/
def turnedQueries : FVec Ideal S2x8192x512 .bf16 := fun x => Projection.turned (entries m c (x 0) (x 1)) 2372 (by omega) (x 1) (x 2)

theorem turnedQueries_array : (dats m 0 c).arrAt 19 (cfgs 0).N = turnedQueries m c := by
  refine (dats m 0 c).arrAt_eq_of_covers 19 _ (by decide +kernel) fun t hf y => ?_
  blk_simp
  rw [after0_19]
  idx_vars y
  have e : ((View.whole main_v61_10).slice (win0_19.rect t)).emb (ix3 y0 y1 y2) = ix3 (batch t) (token t y1) y2 := by
    have ht := point_lt t
    funext a
    fin_cases a <;> exact Fin.ext (by blk_simp [idx19 t]; simp [batch, token]; try omega)
  rw [e]
  obtain rfl : y0 = 0 := Fin.ext (by omega)
  exact query_block m c t y1 y2

/-- The retention's keys, rotated, grouped, with their factor. -/
def turnedKeys : FVec Ideal S2x8192x512 .bf16 :=
  fun x => Projection.turned (entries m c (x 0) (x 1)) 2884 (by omega) (x 1) (x 2) * Ideal.ofBits FTy.f32 0x3E000000#32

theorem turnedKeys_array : (dats m 0 c).arrAt 20 (cfgs 0).N = turnedKeys m c := by
  refine (dats m 0 c).arrAt_eq_of_covers 20 _ (by decide +kernel) fun t hf y => ?_
  blk_simp
  rw [after0_20]
  idx_vars y
  have e : ((View.whole main_v61_11).slice (win0_20.rect t)).emb (ix3 y0 y1 y2) = ix3 (batch t) (token t y1) y2 := by
    have ht := point_lt t
    funext a
    fin_cases a <;> exact Fin.ext (by blk_simp [idx20 t]; simp [batch, token]; try omega)
  rw [e]
  obtain rfl : y0 = 0 := Fin.ext (by omega)
  exact key_block m c t y1 y2

end Cert.Kernel2Ideal.Arrays

end
-- ==== Proof.ProjectionTail.lean ====
module

public import proofs.«01_k».proof.Proof.ProjectionArrays
public import Idealize.ShloMosaic.Lib.StableHlo.ReadAt

@[expose] public section

set_option maxRecDepth 16384

noncomputable section

/-!
The host lines after the projection turn the keys and the values, left feature by token, into token by head and feature.
-/

namespace Cert.Kernel2Ideal.Tail

open Cert.Kernel2Ideal Cert.Kernel2Ideal.Gen Cert.Kernel2Ideal.Call
open Idealize.ShloMosaic Idealize.ShloMosaic.TcCoe Idealize.SL.Sem Idealize.ShloMosaic.StableHlo

variable (W : Valuation τ sig (Elt Ideal))

theorem keys_tail (i : Fin 2) (n : Fin 8192) (h : Fin 8) (d : Fin 64) :
    after ([hostOps1] : List (List (HloOp τ sig (Elt Ideal)))).flatten W (Proc.devRef .tc main_v63) (ix4 i n h d)
      = W (Proc.devRef .tc main_v61_1) (ix3 i ⟨h.val * 64 + d.val, by omega⟩ n) := by
  simp only [List.flatten_cons, List.flatten_nil, List.append_nil, List.cons_append, List.nil_append]
  after_reads_at

theorem values_tail (i : Fin 2) (n : Fin 8192) (h : Fin 8) (d : Fin 64) :
    after ([hostOps1] : List (List (HloOp τ sig (Elt Ideal)))).flatten W (Proc.devRef .tc main_v65) (ix4 i n h d)
      = W (Proc.devRef .tc main_v61_2) (ix3 i ⟨h.val * 64 + d.val, by omega⟩ n) := by
  simp only [List.flatten_cons, List.flatten_nil, List.append_nil, List.cons_append, List.nil_append]
  after_reads_at

variable (m : (ℓ : Loc nD τ sig) → Buf (Elt Ideal) ℓ) (c : Dev nD)

/-- The keys the program leaves. -/
theorem keys_result (i : Fin 2) (n : Fin 8192) (h : Fin 8) (d : Fin 64) :
    Pipeline.afterTail₀ cfgs (dats m) 0 (V0 m) [hostOps1] c main_v63 (ix4 i n h d)
      = Arrays.entries m c i n ⟨512 + (h.val * 64 + d.val), by omega⟩ := by
  unfold Pipeline.afterTail₀
  rw [keys_tail]
  have ha := Pipeline.withArrays_arr (cfgs 0).spec (by decide) c (V0 m c) (fun w => (dats m 0 c).arrAt w (cfgs 0).N) 10
  exact (congrFun ha _).trans (congrFun (Arrays.keys_array m c) _)

/-- The values the program leaves. -/
theorem values_result (i : Fin 2) (n : Fin 8192) (h : Fin 8) (d : Fin 64) :
    Pipeline.afterTail₀ cfgs (dats m) 0 (V0 m) [hostOps1] c main_v65 (ix4 i n h d)
      = Arrays.entries m c i n ⟨1024 + (h.val * 64 + d.val), by omega⟩ := by
  unfold Pipeline.afterTail₀
  rw [values_tail]
  have ha := Pipeline.withArrays_arr (cfgs 0).spec (by decide) c (V0 m c) (fun w => (dats m 0 c).arrAt w (cfgs 0).N) 11
  exact (congrFun ha _).trans (congrFun (Arrays.values_array m c) _)

end Cert.Kernel2Ideal.Tail

end
-- ==== Proof.Merge.lean ====
module

public import proofs.«01_k».proof.Proof.Projection

@[expose] public section

noncomputable section

/-!
The merge's mathematics over the extended reals: the retention's row normalized head by head, the two gated rows' projections mixed, the
residual, and the last norm. And that a sum against the averaging matrix is a head's mean.
-/

namespace Cert.Merge

open Idealize.ShloMosaic

/-- The head of 64 features that feature `j` belongs to. -/
def head (j : Fin 512) : Fin 8 := ⟨j.val / 64, by omega⟩

/-- The mean of head `h`. -/
def headMean (f : Fin 512 → EReal) (h : Fin 8) : EReal :=
  Ideal.div (∑ d : Fin 64, f ⟨h.val * 64 + d.val, by omega⟩) (Ideal.ofBits FTy.f32 0x42800000#32)

/-- What feature `j` differs by from its head's mean. -/
def deviation (f : Fin 512 → EReal) (j : Fin 512) : EReal := f j - headMean f (head j)

/-- That, over the head's standard deviation. -/
def normalized (f : Fin 512 → EReal) (j : Fin 512) : EReal :=
  deviation f j * Ideal.rsqrt (headMean (fun l => deviation f l * deviation f l) (head j) + Ideal.ofBits FTy.f32 0x358637BD#32)

/-- The two rows' projections, mixed by their gates. -/
def merged (ya sza ret szr g : Fin 512 → EReal) (sga sgr : Fin 1024 → EReal) (wa wr : Fin 512 → Fin 1024 → EReal) (k : Fin 1024) : EReal :=
  sga k * ∑ j : Fin 512, ya j * sza j * wa j k + sgr k * ∑ j : Fin 512, normalized ret j * g j * szr j * wr j k

/-- The residual's row after the layer. -/
def residual (x gate mixed : Fin 1024 → EReal) (w : Fin 1024 → Fin 1024 → EReal) (k : Fin 1024) : EReal :=
  x k + gate k * ∑ l : Fin 1024, mixed l * w l k

/-- A row divided by its root mean square, times the norm's weights. -/
def rms (x g : Fin 1024 → EReal) (k : Fin 1024) : EReal :=
  x k * Ideal.rsqrt (Ideal.div (∑ l : Fin 1024, x l * x l) (Ideal.ofBits FTy.f32 0x44800000#32) + Ideal.ofBits FTy.f32 0x358637BD#32) * g k

/-- The merge's entry for feature `k` of token `n` of batch `i`, from the arguments. -/
def entry (x : Fin 2 → Fin 8192 → Fin 1024 → EReal) (gate : Fin 2 → Fin 1024 → EReal) (ya sza ret szr : Fin 2 → Fin 8192 → Fin 512 → EReal)
    (sga sgr : Fin 2 → Fin 8192 → Fin 1024 → EReal) (g : Fin 512 → EReal) (wa wr : Fin 512 → Fin 1024 → EReal)
    (wo : Fin 1024 → Fin 1024 → EReal) (gl : Fin 1024 → EReal) (i : Fin 2) (n : Fin 8192) (k : Fin 1024) : EReal :=
  rms (residual (x i n) (gate i) (merged (ya i n) (sza i n) (ret i n) (szr i n) g (sga i n) (sgr i n) wa wr) wo) gl k

theorem head_of (h : Fin 8) (d : Fin 64) : head ⟨h.val * 64 + d.val, by omega⟩ = h := Fin.ext (by show (h.val * 64 + d.val) / 64 = h.val; omega)

theorem width : Ideal.ofBits FTy.f32 0x42800000#32 = ((64 : ℝ) : EReal) := by
  simp [Ideal.ofBits, Ideal.ieee, -EReal.coe_mul]; norm_num

/-- Dividing by a head's width is multiplying by its inverse. -/
theorem div_width (x : EReal) : Ideal.div x (Ideal.ofBits FTy.f32 0x42800000#32) = x * ((1 / 64 : ℝ) : EReal) := by
  rw [width]; unfold Ideal.div
  rw [if_neg (by norm_num), one_div, EReal.coe_inv]

/-- A sum against column `j` of the averaging matrix is the mean of feature `j`'s head. -/
theorem averaged (f a : Fin 512 → EReal) (j : Fin 512)
    (ha : ∀ l, a l = if l.val / 64 = j.val / 64 then ((1 / 64 : ℝ) : EReal) else 0) :
    ∑ l : Fin 512, f l * a l = headMean f (head j) := by
  have e : ∀ l, f l * a l = if l.val / 64 = j.val / 64 then f l * ((1 / 64 : ℝ) : EReal) else 0 := fun l => by
    rw [ha l]; split_ifs
    · rfl
    · exact mul_zero _
  unfold headMean
  rw [Finset.sum_congr rfl fun l _ => e l, div_width, ← Projection.sum_scaled _ _ (EReal.coe_nonneg.mpr (by norm_num)) (EReal.coe_ne_top _)]
  rw [← (finProdFinEquiv (m := 8) (n := 64)).sum_comp, Fintype.sum_prod_type]
  have v : ∀ (h : Fin 8) (d : Fin 64), (finProdFinEquiv (h, d) : Fin (8 * 64)) = ⟨h.val * 64 + d.val, by omega⟩ := fun h d =>
    Fin.ext (by simp [finProdFinEquiv]; omega)
  rw [Finset.sum_eq_single (head j)]
  · refine Finset.sum_congr rfl fun d _ => ?_
    rw [v, if_pos (by show ((head j).val * 64 + d.val) / 64 = j.val / 64; simp only [head]; omega)]
  · intro h _ hne
    refine Finset.sum_eq_zero fun d _ => ?_
    rw [v, if_neg fun hh => hne (Fin.ext (by
      have : (h.val * 64 + d.val) / 64 = j.val / 64 := hh
      show h.val = j.val / 64
      omega))]
  · intro h; exact absurd (Finset.mem_univ _) h

/-- A row of numbers has a number for each head's mean, -/
theorem headMean_number (f : Fin 512 → EReal) (hf : ∀ l, ∃ x : ℝ, f l = x) (h : Fin 8) : ∃ x : ℝ, headMean f h = x := by
  choose g hg using hf
  unfold headMean
  rw [div_width]
  refine ⟨(∑ d : Fin 64, g ⟨h.val * 64 + d.val, by omega⟩) * (1 / 64), ?_⟩
  rw [Finset.sum_congr rfl fun d _ => hg _, EReal.coe_mul]
  exact congrArg (· * _) (map_sum (⟨⟨Real.toEReal, EReal.coe_zero⟩, EReal.coe_add⟩ : ℝ →+ EReal) _ _).symm

/-- and for each deviation. -/
theorem deviation_number (f : Fin 512 → EReal) (hf : ∀ l, ∃ x : ℝ, f l = x) (j : Fin 512) : ∃ x : ℝ, deviation f j = x := by
  obtain ⟨a, ha⟩ := hf j
  obtain ⟨b, hb⟩ := headMean_number f hf (head j)
  exact ⟨a - b, by unfold deviation; rw [ha, hb, EReal.coe_sub]⟩

/-- What a number's rounding leaves, summed against anything, is nothing: the low half of a split adds zero. -/
theorem split_sum (f a : Fin 512 → EReal) (hf : ∀ l, ∃ x : ℝ, f l = x) :
    ∑ l : Fin 512, (f l - f l) * a l + ∑ l : Fin 512, f l * a l = ∑ l : Fin 512, f l * a l := by
  rw [Finset.sum_eq_zero, zero_add]
  intro l _
  obtain ⟨x, hx⟩ := hf l
  rw [hx, EReal.sub_self (EReal.coe_ne_top _) (EReal.coe_ne_bot _), zero_mul]

end Cert.Merge

end
-- ==== Proof.MergeRows.lean ====
module

public import proofs.«01_k».proof.Proof.Merge
public import proofs.«01_k».proof.Proof.Gen.Kernel3Ideal.Value
public import Idealize.ShloMosaic.Lib.Pointwise
public import Idealize.ShloMosaic.Lib.Pipeline.ValueKit
public import Idealize.ShloMosaic.Lib.Pipeline.ReadBack

@[expose] public section

set_option maxRecDepth 16384

noncomputable section

/-!
What the merge's body leaves in its block, one entry at a time, payload by payload: the mathematics of one token's rows, where the
retention's row holds numbers and the averaging window holds the averaging matrix.
-/

namespace Cert.Kernel3Ideal.Rows

open Cert.Kernel3Ideal Cert.Kernel3Ideal.Gen Idealize.ShloMosaic Idealize.ShloMosaic.TcCoe Idealize.SL.Sem

/-- The averaging matrix. -/
def Averaging (a : Vec Ideal S512x512 .bf16) : Prop :=
  ∀ l j : Fin 512, a (ix2 l j) = if l.val / 64 = j.val / 64 then ((1 / 64 : ℝ) : EReal) else 0

/-- The retention's row, normalized, weighted and gated. -/
theorem normalized_at (v0 : Vec Ideal S1x512x512 .f32) (v2 : Vec Ideal S512x512 .bf16) (v23 : Vec Ideal S1x512 .f32)
    (v27 : Vec Ideal S1x512x512 .bf16) (ha : Averaging v2) (r j : Fin 512) (hf : ∀ l, ∃ x : ℝ, v0 (ix3 0 r l) = x) :
    k0_pay2 v0 v2 v23 v27 (ix2 r j) = Merge.normalized (fun l => v0 (ix3 0 r l)) j * v23 (ix2 0 j) * v27 (ix3 0 r j) := by
  have mean : ∀ j : Fin 512, ∑ l : Fin 512, (v0 (ix3 0 r l) - v0 (ix3 0 r l)) * v2 (ix2 l j) + ∑ l : Fin 512, v0 (ix3 0 r l) * v2 (ix2 l j)
      = Merge.headMean (fun l => v0 (ix3 0 r l)) (Merge.head j) := fun j => by
    rw [Merge.split_sum (fun l => v0 (ix3 0 r l)) (fun l => v2 (ix2 l j)) hf]
    exact Merge.averaged _ _ _ fun l => ha l j
  have dev : ∀ j : Fin 512, v0 (ix3 0 r j) - Merge.headMean (fun l => v0 (ix3 0 r l)) (Merge.head j)
      = Merge.deviation (fun l => v0 (ix3 0 r l)) j := fun j => rfl
  unfold k0_pay2
  pointwise []
  simp only [mean, dev]
  have square : ∀ l, ∃ x : ℝ, Merge.deviation (fun l => v0 (ix3 0 r l)) l * Merge.deviation (fun l => v0 (ix3 0 r l)) l = x := fun l => by
    obtain ⟨x, hx⟩ := Merge.deviation_number _ hf l
    exact ⟨x * x, by rw [hx, EReal.coe_mul]⟩
  rw [Merge.split_sum (fun l => Merge.deviation (fun l => v0 (ix3 0 r l)) l * Merge.deviation (fun l => v0 (ix3 0 r l)) l)
    (fun l => v2 (ix2 l j)) square]
  rw [Merge.averaged (fun l => Merge.deviation (fun l => v0 (ix3 0 r l)) l * Merge.deviation (fun l => v0 (ix3 0 r l)) l)
    (fun l => v2 (ix2 l j)) j fun l => ha l j]
  rfl

theorem rows_at (v : Vec Ideal S1x512x512 .bf16) (r j : Fin 512) : k0_pay3 v (ix2 r j) = v (ix3 0 r j) := by
  unfold k0_pay3
  pointwise []

theorem gates_at (v : Vec Ideal S1x512x512 .bf16) (r j : Fin 512) : k0_pay4 v (ix2 r j) = v (ix3 0 r j) := by
  unfold k0_pay4
  pointwise []

section Payloads

variable (v30 v33 v36 : FVec Ideal S512x512 .f32) (v39 : Vec Ideal S1x512x1024 .bf16) (v42 : Vec Ideal S512x1024 .bf16)
  (v46 : Vec Ideal S1x512x1024 .bf16) (v50 : Vec Ideal S512x1024 .bf16) (v55 : Vec Ideal S1x512x1024 .f32)
  (v57 : Vec Ideal S1x1x1024 .f32) (v60 : Vec Ideal S1024x1024 .bf16)

/-- The residual's row, from the two gated rows. -/
def residualRow (r : Fin 512) : Fin 1024 → EReal :=
  Merge.residual (fun k => v55 (ix3 0 r k)) (fun k => v57 (ix3 0 0 k))
    (fun l => v39 (ix3 0 r l) * ∑ j : Fin 512, v33 (ix2 r j) * v36 (ix2 r j) * v42 (ix2 j l)
      + v46 (ix3 0 r l) * ∑ j : Fin 512, v30 (ix2 r j) * v50 (ix2 j l))
    (fun l k => v60 (ix2 l k))

theorem residual_at (r : Fin 512) (k : Fin 1024) :
    k0_pay5 v30 v33 v36 v39 v42 v46 v50 v55 v57 v60 (ix2 r k) = residualRow v30 v33 v36 v39 v42 v46 v50 v55 v57 v60 r k := by
  unfold k0_pay5
  pointwise []
  rfl

theorem square_at (r : Fin 512) : k0_pay6 v30 v33 v36 v39 v42 v46 v50 v55 v57 v60 (ix2 r 0)
    = Ideal.div (∑ l : Fin 1024, residualRow v30 v33 v36 v39 v42 v46 v50 v55 v57 v60 r l * residualRow v30 v33 v36 v39 v42 v46 v50 v55 v57 v60 r l)
        (Ideal.ofBits FTy.f32 0x44800000#32) := by
  unfold k0_pay6
  pointwise []
  simp only [residual_at]

end Payloads

theorem eps_at (r : Fin 512) : k0_pay7 (F := Ideal) (ix2 r 0) = Ideal.ofBits FTy.f32 0x358637BD#32 := by
  unfold k0_pay7
  pointwise []

theorem scaled_at (v65 : FVec Ideal S512x1024 .f32) (v70 v71 : FVec Ideal S512x1 .f32) (v76 : Vec Ideal S1x1024 .f32) (r : Fin 512)
    (k : Fin 1024) :
    k0_pay1 v65 v70 v71 v76 (ix3 0 r k) = v65 (ix2 r k) * Ideal.rsqrt (v70 (ix2 r 0) + v71 (ix2 r 0)) * v76 (ix2 0 k) := by
  unfold k0_pay1
  pointwise []

/-- A load of a whole window. -/
theorem whole_512x512 {e : EltTy} (x : Vec Ideal S1x512x512 e) : View.ld x r0_0 = x := by
  funext i; idx_vars i; rw [Subsingleton.elim i0 0]; pointwise []

theorem whole_average {e : EltTy} (x : Vec Ideal S512x512 e) : View.ld x r0_1 = x := by
  funext i; idx_vars i; pointwise []

theorem whole_512 {e : EltTy} (x : Vec Ideal S1x512 e) : View.ld x r0_2 = x := by
  funext i; idx_vars i; rw [Subsingleton.elim i0 0]; pointwise []

theorem whole_512x1024 {e : EltTy} (x : Vec Ideal S1x512x1024 e) : View.ld x r0_3 = x := by
  funext i; idx_vars i; rw [Subsingleton.elim i0 0]; pointwise []

theorem whole_weights {e : EltTy} (x : Vec Ideal S512x1024 e) : View.ld x r0_4 = x := by
  funext i; idx_vars i; pointwise []

theorem whole_gate {e : EltTy} (x : Vec Ideal S1x1x1024 e) : View.ld x r0_5 = x := by
  funext i; idx_vars i; rw [Subsingleton.elim i0 0, Subsingleton.elim i1 0]; pointwise []

theorem whole_out {e : EltTy} (x : Vec Ideal S1024x1024 e) : View.ld x r0_6 = x := by
  funext i; idx_vars i; pointwise []

theorem whole_norm {e : EltTy} (x : Vec Ideal S1x1024 e) : View.ld x r0_7 = x := by
  funext i; idx_vars i; rw [Subsingleton.elim i0 0]; pointwise []

/-- The block's entry: the norm of the residual's row. -/
theorem out_at (x0 : Vec Ideal S1x512x1024 .f32) (x1 : Vec Ideal S1x1x1024 .f32) (x2 x3 : Vec Ideal S1x512x512 .bf16)
    (x4 : Vec Ideal S1x512x512 .f32) (x5 : Vec Ideal S1x512x512 .bf16) (x6 x7 : Vec Ideal S1x512x1024 .bf16) (x8 : Vec Ideal S512x512 .bf16)
    (x9 : Vec Ideal S1x512 .f32) (x10 x11 : Vec Ideal S512x1024 .bf16) (x12 : Vec Ideal S1024x1024 .bf16) (x13 : Vec Ideal S1x1024 .f32)
    (ha : Averaging x8) (r : Fin 512) (hf : ∀ l, ∃ x : ℝ, x4 (ix3 0 r l) = x) (k : Fin 1024) :
    out0_14 x0 x1 x2 x3 x4 x5 x6 x7 x8 x9 x10 x11 x12 x13 (ix3 0 r k)
      = Merge.rms (Merge.residual (fun k => x0 (ix3 0 r k)) (fun k => x1 (ix3 0 0 k))
          (Merge.merged (fun j => x2 (ix3 0 r j)) (fun j => x3 (ix3 0 r j)) (fun j => x4 (ix3 0 r j)) (fun j => x5 (ix3 0 r j))
            (fun j => x9 (ix2 0 j)) (fun l => x6 (ix3 0 r l)) (fun l => x7 (ix3 0 r l)) (fun j l => x10 (ix2 j l)) (fun j l => x11 (ix2 j l)))
          (fun l k => x12 (ix2 l k))) (fun k => x13 (ix2 0 k)) k := by
  have row : residualRow (k0_pay2 x4 x8 x9 x5) (k0_pay3 x2) (k0_pay4 x3) x6 x10 x7 x11 x0 x1 x12 r
      = Merge.residual (fun k => x0 (ix3 0 r k)) (fun k => x1 (ix3 0 0 k))
          (Merge.merged (fun j => x2 (ix3 0 r j)) (fun j => x3 (ix3 0 r j)) (fun j => x4 (ix3 0 r j)) (fun j => x5 (ix3 0 r j))
            (fun j => x9 (ix2 0 j)) (fun l => x6 (ix3 0 r l)) (fun l => x7 (ix3 0 r l)) (fun j l => x10 (ix2 j l)) (fun j l => x11 (ix2 j l)))
          (fun l k => x12 (ix2 l k)) := by
    unfold residualRow Merge.merged
    congr 1
    funext l
    have e : ∀ j, k0_pay2 x4 x8 x9 x5 (ix2 r j) = _ := fun j => normalized_at x4 x8 x9 x5 ha r j hf
    simp only [e, rows_at, gates_at]
  unfold out0_14 k0_pay8 k0_pay9 k0_pay10
  simp only [whole_512x512, whole_average, whole_512, whole_512x1024, whole_weights, whole_gate, whole_out, whole_norm]
  canon_tiles x h
  all_goals idx_vars x
  all_goals
    obtain rfl : r = x1 := Fin.ext h1
    obtain rfl : k = x2 := Fin.ext h2
    obtain rfl : x0 = 0 := Fin.ext (by omega)
    rw [scaled_at, residual_at, square_at, eps_at, row]
    rfl

end Cert.Kernel3Ideal.Rows

end
-- ==== Proof.MergeBlocks.lean ====
module

public import proofs.«01_k».proof.Proof.MergeRows
public import Idealize.ShloMosaic.Lib.StableHlo.ReadAt
public import Idealize.ShloMosaic.Lib.IdealHost

@[expose] public section

set_option maxRecDepth 16384

noncomputable section

/-!
What the merge's windows hold at point `t`, block `t % 16` of batch `t / 16`: its tokens' rows, the batch's gate, the averaging matrix,
the weights and the norms' weights.
-/

namespace Cert.Kernel3Ideal.Blocks

open Cert.Kernel3Ideal Cert.Kernel3Ideal.Gen Cert.Kernel3Ideal.Rows Idealize.ShloMosaic Idealize.ShloMosaic.TcCoe Idealize.SL.Sem

variable (m : (ℓ : Loc nD τ sig) → Buf (Elt Ideal) ℓ) (c : Dev nD) (t : Fin cfg0.N)

theorem idx0 : win0_0.index t = ![t.val / 16, t.val % 16, 0] := by revert t; decide +kernel
theorem idx1 : win0_1.index t = ![t.val / 16, 0, 0] := by revert t; decide +kernel
theorem idx2 : win0_2.index t = ![t.val / 16, t.val % 16, 0] := by revert t; decide +kernel
theorem idx3 : win0_3.index t = ![t.val / 16, t.val % 16, 0] := by revert t; decide +kernel
theorem idx4 : win0_4.index t = ![t.val / 16, t.val % 16, 0] := by revert t; decide +kernel
theorem idx5 : win0_5.index t = ![t.val / 16, t.val % 16, 0] := by revert t; decide +kernel
theorem idx6 : win0_6.index t = ![t.val / 16, t.val % 16, 0] := by revert t; decide +kernel
theorem idx7 : win0_7.index t = ![t.val / 16, t.val % 16, 0] := by revert t; decide +kernel
theorem idx8 : win0_8.index t = ![0, 0] := by revert t; decide +kernel
theorem idx9 : win0_9.index t = ![0, 0] := by revert t; decide +kernel
theorem idx10 : win0_10.index t = ![0, 0] := by revert t; decide +kernel
theorem idx11 : win0_11.index t = ![0, 0] := by revert t; decide +kernel
theorem idx12 : win0_12.index t = ![0, 0] := by revert t; decide +kernel
theorem idx13 : win0_13.index t = ![0, 0] := by revert t; decide +kernel
theorem idx14 : win0_14.index t = ![t.val / 16, t.val % 16, 0] := by revert t; decide +kernel

/-- Token `r` of block `t`: the layer's row, the two mixed rows, their gates. -/
theorem x_at (b : Fin 2) (hb : b.val = t.val / 16) (n : Fin 8192) (r : Fin 512) (hn : n.val = 512 * (t.val % 16) + r.val) (k : Fin 1024) :
    iblk m c 0 t (ix3 0 r k) = m (c.tc.loc main_arg0) (ix3 b n k) := by
  rw [← V_main_arg0 m c]
  blk_ext [iblk, V, idx0 t]

theorem attention_at (b : Fin 2) (hb : b.val = t.val / 16) (n : Fin 8192) (r : Fin 512) (hn : n.val = 512 * (t.val % 16) + r.val) (k : Fin 512) :
    iblk m c 2 t (ix3 0 r k) = m (c.tc.loc main_arg2) (ix3 b n k) := by
  rw [← V_main_arg2 m c]
  blk_ext [iblk, V, idx2 t]

theorem attention_gate_at (b : Fin 2) (hb : b.val = t.val / 16) (n : Fin 8192) (r : Fin 512) (hn : n.val = 512 * (t.val % 16) + r.val) (k : Fin 512) :
    iblk m c 3 t (ix3 0 r k) = m (c.tc.loc main_arg3) (ix3 b n k) := by
  rw [← V_main_arg3 m c]
  blk_ext [iblk, V, idx3 t]

theorem retention_at (b : Fin 2) (hb : b.val = t.val / 16) (n : Fin 8192) (r : Fin 512) (hn : n.val = 512 * (t.val % 16) + r.val) (k : Fin 512) :
    iblk m c 4 t (ix3 0 r k) = m (c.tc.loc main_arg4) (ix3 b n k) := by
  rw [← V_main_arg4 m c]
  blk_ext [iblk, V, idx4 t]

theorem retention_gate_at (b : Fin 2) (hb : b.val = t.val / 16) (n : Fin 8192) (r : Fin 512) (hn : n.val = 512 * (t.val % 16) + r.val) (k : Fin 512) :
    iblk m c 5 t (ix3 0 r k) = m (c.tc.loc main_arg5) (ix3 b n k) := by
  rw [← V_main_arg5 m c]
  blk_ext [iblk, V, idx5 t]

theorem attention_mix_at (b : Fin 2) (hb : b.val = t.val / 16) (n : Fin 8192) (r : Fin 512) (hn : n.val = 512 * (t.val % 16) + r.val) (k : Fin 1024) :
    iblk m c 6 t (ix3 0 r k) = m (c.tc.loc main_arg6) (ix3 b n k) := by
  rw [← V_main_arg6 m c]
  blk_ext [iblk, V, idx6 t]

theorem retention_mix_at (b : Fin 2) (hb : b.val = t.val / 16) (n : Fin 8192) (r : Fin 512) (hn : n.val = 512 * (t.val % 16) + r.val) (k : Fin 1024) :
    iblk m c 7 t (ix3 0 r k) = m (c.tc.loc main_arg7) (ix3 b n k) := by
  rw [← V_main_arg7 m c]
  blk_ext [iblk, V, idx7 t]

theorem gate_at (b : Fin 2) (hb : b.val = t.val / 16) (k : Fin 1024) : iblk m c 1 t (ix3 0 0 k) = m (c.tc.loc main_arg1) (ix2 b k) := by
  have h : iblk m c 1 t (ix3 0 0 k) = V m c main_v14 (ix3 b 0 k) := by blk_ext [iblk, V, idx1 t]
  rw [h]; unfold V
  after_reads_at

/-- The averaging matrix: 1/64 where the two features' heads agree. -/
theorem average_window : Averaging (iblk m c 8 t) := fun l j => by
  have h : iblk m c 8 t (ix2 l j) = V m c main_v10 (ix2 l j) := by blk_ext [iblk, V, idx8 t]
  rw [h]; unfold V
  after_reads_at
  rw [Merge.div_width]
  have inj : BitVec.ofNat 32 (l.val / 64) = BitVec.ofNat 32 (j.val / 64) ↔ l.val / 64 = j.val / 64 := by
    rw [← BitVec.toNat_inj, BitVec.toNat_ofNat, BitVec.toNat_ofNat]
    omega
  by_cases hh : l.val / 64 = j.val / 64
  · rw [if_pos hh, inj.2 hh]
    have one : FloatOps.uitofp (F := Ideal) FTy.f32 (IntOp.cmpi .eq (BitVec.ofNat 32 (j.val / 64)) (BitVec.ofNat 32 (j.val / 64))) = (1 : EReal) := by
      simp [FloatOps.uitofp, IntOp.cmpi]
    rw [one, one_mul]
  · rw [if_neg hh]
    have zero : FloatOps.uitofp (F := Ideal) FTy.f32 (IntOp.cmpi .eq (BitVec.ofNat 32 (l.val / 64)) (BitVec.ofNat 32 (j.val / 64))) = (0 : EReal) := by
      simp [FloatOps.uitofp, IntOp.cmpi, mt inj.1 hh]
    rw [zero, zero_mul]

theorem head_norm_at (k : Fin 512) : iblk m c 9 t (ix2 0 k) = m (c.tc.loc main_arg8) (ix1 k) := by
  have h : iblk m c 9 t (ix2 0 k) = V m c main_v15 (ix2 0 k) := by blk_ext [iblk, V, idx9 t]
  rw [h]; unfold V
  after_reads_at

theorem last_norm_at (k : Fin 1024) : iblk m c 13 t (ix2 0 k) = m (c.tc.loc main_arg12) (ix1 k) := by
  have h : iblk m c 13 t (ix2 0 k) = V m c main_v16 (ix2 0 k) := by blk_ext [iblk, V, idx13 t]
  rw [h]; unfold V
  after_reads_at

theorem attention_weight_at (j : Fin 512) (k : Fin 1024) : iblk m c 10 t (ix2 j k) = m (c.tc.loc main_arg9) (ix2 j k) := by
  have h : iblk m c 10 t (ix2 j k) = V m c main_v11 (ix2 j k) := by blk_ext [iblk, V, idx10 t]
  rw [h]; unfold V
  after_reads_at

theorem retention_weight_at (j : Fin 512) (k : Fin 1024) : iblk m c 11 t (ix2 j k) = m (c.tc.loc main_arg10) (ix2 j k) := by
  have h : iblk m c 11 t (ix2 j k) = V m c main_v12 (ix2 j k) := by blk_ext [iblk, V, idx11 t]
  rw [h]; unfold V
  after_reads_at

theorem out_weight_at (j : Fin 1024) (k : Fin 1024) : iblk m c 12 t (ix2 j k) = m (c.tc.loc main_arg11) (ix2 j k) := by
  have h : iblk m c 12 t (ix2 j k) = V m c main_v13 (ix2 j k) := by blk_ext [iblk, V, idx12 t]
  rw [h]; unfold V
  after_reads_at

end Cert.Kernel3Ideal.Blocks

end
-- ==== Proof.MergeArrays.lean ====
module

public import proofs.«01_k».proof.Proof.MergeBlocks

@[expose] public section

set_option maxRecDepth 16384

noncomputable section

/-!
The array the merge leaves, where the retention's rows hold numbers: block `t % 16` of batch `t / 16` is point `t`'s, and every entry is
the mathematics of its token's rows.
-/

namespace Cert.Kernel3Ideal.Arrays

open Cert.Kernel3Ideal Cert.Kernel3Ideal.Gen Cert.Kernel3Ideal.Blocks Cert.Kernel3Ideal.Rows
open Idealize.ShloMosaic Idealize.ShloMosaic.TcCoe Idealize.SL.Sem

variable (m : (ℓ : Loc nD τ sig) → Buf (Elt Ideal) ℓ) (c : Dev nD)

/-- The result's entries, from the arguments. -/
def entries : Fin 2 → Fin 8192 → Fin 1024 → EReal :=
  Merge.entry (fun i n k => m (c.tc.loc main_arg0) (ix3 i n k)) (fun i k => m (c.tc.loc main_arg1) (ix2 i k))
    (fun i n j => m (c.tc.loc main_arg2) (ix3 i n j)) (fun i n j => m (c.tc.loc main_arg3) (ix3 i n j))
    (fun i n j => m (c.tc.loc main_arg4) (ix3 i n j)) (fun i n j => m (c.tc.loc main_arg5) (ix3 i n j))
    (fun i n k => m (c.tc.loc main_arg6) (ix3 i n k)) (fun i n k => m (c.tc.loc main_arg7) (ix3 i n k))
    (fun j => m (c.tc.loc main_arg8) (ix1 j)) (fun j k => m (c.tc.loc main_arg9) (ix2 j k)) (fun j k => m (c.tc.loc main_arg10) (ix2 j k))
    (fun l k => m (c.tc.loc main_arg11) (ix2 l k)) (fun k => m (c.tc.loc main_arg12) (ix1 k))

/-- The result. -/
def result : FVec Ideal S2x8192x1024 .f32 := fun x => entries m c (x 0) (x 1) (x 2)

theorem point_lt (t : Fin cfg0.N) : t.val < 32 := N_0 ▸ t.isLt

/-- Point `t`'s batch, and its block's token `r`. -/
def batch (t : Fin cfg0.N) : Fin 2 := ⟨t.val / 16, by have := point_lt t; omega⟩
def token (t : Fin cfg0.N) (r : Fin 512) : Fin 8192 := ⟨512 * (t.val % 16) + r.val, by omega⟩

/-- What point `t` writes for row `r` of its block. -/
theorem block_at (hf : ∀ i n j, ∃ x : ℝ, m (c.tc.loc main_arg4) (ix3 i n j) = (x : EReal)) (t : Fin cfg0.N) (r : Fin 512) (k : Fin 1024) :
    out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ix3 0 r k)
      = entries m c (batch t) (token t r) k := by
  rw [out_at _ _ _ _ _ _ _ _ _ _ _ _ _ _ (average_window m c t) r
    (fun l => by rw [retention_at m c t (batch t) rfl (token t r) r rfl l]; exact hf _ _ _) k]
  simp only [x_at m c t (batch t) rfl (token t r) r rfl, gate_at m c t (batch t) rfl, attention_at m c t (batch t) rfl (token t r) r rfl,
    attention_gate_at m c t (batch t) rfl (token t r) r rfl, retention_at m c t (batch t) rfl (token t r) r rfl,
    retention_gate_at m c t (batch t) rfl (token t r) r rfl, attention_mix_at m c t (batch t) rfl (token t r) r rfl,
    retention_mix_at m c t (batch t) rfl (token t r) r rfl, head_norm_at, last_norm_at, attention_weight_at, retention_weight_at, out_weight_at]
  rfl

theorem result_array (hf : ∀ i n j, ∃ x : ℝ, m (c.tc.loc main_arg4) (ix3 i n j) = (x : EReal)) :
    (dats m 0 c).arrAt 14 cfg0.N = result m c := by
  refine (dats m 0 c).arrAt_eq_of_covers 14 _ (by decide +kernel) fun t hf' y => ?_
  blk_simp
  rw [after0_14]
  idx_vars y
  have e : ((View.whole main_v17).slice (win0_14.rect t)).emb (ix3 y0 y1 y2) = ix3 (batch t) (token t y1) y2 := by
    have ht := point_lt t
    funext a
    fin_cases a <;> exact Fin.ext (by blk_simp [idx14 t]; simp [batch, token]; try omega)
  rw [e]
  obtain rfl : y0 = 0 := Fin.ext (by omega)
  exact block_at m c hf t y1 y2

end Cert.Kernel3Ideal.Arrays

end
-- ==== Proof.MergeReference.lean ====
module

public import proofs.«01_k».proof.Proof.Merge
public import proofs.«01_k».proof.Proof.Gen.Reference3Ideal.Run
public import Idealize.ShloMosaic.Lib.IdealHost

@[expose] public section

set_option maxRecDepth 16384

noncomputable section

/-!
The reference merge's result, index by index, as the mathematics of a token's rows.
-/

namespace Cert.Reference3Ideal.Results

open Cert.Reference3Ideal Cert.Reference3Ideal.Gen Cert.Reference3Ideal.Value Idealize.ShloMosaic Idealize.ShloMosaic.TcCoe Idealize.SL.Sem

variable (m : (ℓ : Loc nD τ sig) → Buf (Elt Ideal) ℓ) (c : Dev nD)

/-- The result's entries, from the arguments. -/
def entries : Fin 2 → Fin 8192 → Fin 1024 → EReal :=
  Merge.entry (fun i n k => m (c.tc.loc main_arg0) (ix3 i n k)) (fun i k => m (c.tc.loc main_arg1) (ix2 i k))
    (fun i n j => m (c.tc.loc main_arg2) (ix3 i n j)) (fun i n j => m (c.tc.loc main_arg3) (ix3 i n j))
    (fun i n j => m (c.tc.loc main_arg4) (ix3 i n j)) (fun i n j => m (c.tc.loc main_arg5) (ix3 i n j))
    (fun i n k => m (c.tc.loc main_arg6) (ix3 i n k)) (fun i n k => m (c.tc.loc main_arg7) (ix3 i n k))
    (fun j => m (c.tc.loc main_arg8) (ix1 j)) (fun j k => m (c.tc.loc main_arg9) (ix2 j k)) (fun j k => m (c.tc.loc main_arg10) (ix2 j k))
    (fun l k => m (c.tc.loc main_arg11) (ix2 l k)) (fun k => m (c.tc.loc main_arg12) (ix1 k))

/-- The retention's rows, less their heads' means. -/
def deviations : FVec Ideal S2x8192x8x64 .f32 :=
  subf (shapeCast S2x8192x8x64 (m ((c.tc : Thread nD τ).loc main_arg4)) shapeCasts_S2x8192x512_S2x8192x8x64) (broadcastInDim S2x8192x8x64 ![0, 1, 2, 3] bcast_S2x8192x8x1_S2x8192x8x64_0_1_2_3 (Host.divf (broadcastInDim S2x8192x8x1 ![0, 1, 2] bcast_S2x8192x8_S2x8192x8x1_0_1_2 (Host.reduceAdd (shapeCast S2x8192x8x64 (m ((c.tc : Thread nD τ).loc main_arg4)) shapeCasts_S2x8192x512_S2x8192x8x64) (constant S_ .f32 0x00000000#32) reducesTo_S2x8192x8x64_S2x8192x8_d3 h_S_)) (broadcastInDim S2x8192x8x1 ![] bcast_S_S2x8192x8x1 (constant S_ .f32 0x42800000#32))))

/-- Those, over their heads' standard deviations. -/
def normalized : FVec Ideal S2x8192x8x64 .f32 :=
  mulf (deviations m c) (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf (deviations m c) (deviations m c)) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))

/-- Weighted and gated. -/
def gatedRows : FVec Ideal S2x8192x512 .f32 :=
  mulf (mulf (shapeCast S2x8192x512 (normalized m c) shapeCasts_S2x8192x8x64_S2x8192x512) (broadcastInDim S2x8192x512 ![0, 1, 2] bcast_S1x1x512_S2x8192x512_0_1_2 (broadcastInDim S1x1x512 ![2] bcast_S512_S1x1x512_2 (m ((c.tc : Thread nD τ).loc main_arg8))))) (extf .f32 (m ((c.tc : Thread nD τ).loc main_arg5)) bitsLt_bf16_f32)

/-- The two rows' projections, mixed. -/
def mixed : FVec Ideal S2x8192x1024 .f32 :=
  addf (mulf (extf .f32 (m ((c.tc : Thread nD τ).loc main_arg6)) bitsLt_bf16_f32) (Host.dotGeneral (φ₁ := .f32) (φ₂ := .f32) dot_S2x8192x512_S512x1024_S2x8192x1024_2_0_01_1_n_n none (mulf (extf .f32 (m ((c.tc : Thread nD τ).loc main_arg2)) bitsLt_bf16_f32) (extf .f32 (m ((c.tc : Thread nD τ).loc main_arg3)) bitsLt_bf16_f32)) (m ((c.tc : Thread nD τ).loc main_arg9)))) (mulf (extf .f32 (m ((c.tc : Thread nD τ).loc main_arg7)) bitsLt_bf16_f32) (Host.dotGeneral (φ₁ := .f32) (φ₂ := .f32) dot_S2x8192x512_S512x1024_S2x8192x1024_2_0_01_1_n_n none (gatedRows m c) (m ((c.tc : Thread nD τ).loc main_arg10))))

/-- The residual. -/
def residual : FVec Ideal S2x8192x1024 .f32 :=
  addf (m ((c.tc : Thread nD τ).loc main_arg0)) (mulf (broadcastInDim S2x8192x1024 ![0, 1, 2] bcast_S2x1x1024_S2x8192x1024_0_1_2 (broadcastInDim S2x1x1024 ![0, 2] bcast_S2x1024_S2x1x1024_0_2 (m ((c.tc : Thread nD τ).loc main_arg1)))) (Host.dotGeneral (φ₁ := .f32) (φ₂ := .f32) dot_S2x8192x1024_S1024x1024_S2x8192x1024_2_0_01_1_n_n none (mixed m c) (m ((c.tc : Thread nD τ).loc main_arg11))))

theorem deviations_at (i : Fin 2) (n : Fin 8192) (h : Fin 8) (d : Fin 64) : deviations m c (ix4 i n h d)
    = Merge.deviation (fun j => m (c.tc.loc main_arg4) (ix3 i n j)) ⟨h.val * 64 + d.val, by omega⟩ := by
  unfold Merge.deviation Merge.headMean
  rw [Merge.head_of]
  unfold deviations
  pointwise []

theorem normalized_at (i : Fin 2) (n : Fin 8192) (h : Fin 8) (d : Fin 64) : normalized m c (ix4 i n h d)
    = Merge.normalized (fun j => m (c.tc.loc main_arg4) (ix3 i n j)) ⟨h.val * 64 + d.val, by omega⟩ := by
  unfold Merge.normalized Merge.headMean
  rw [Merge.head_of]
  simp only [← deviations_at]
  unfold normalized
  pointwise []

theorem gatedRows_at (i : Fin 2) (n : Fin 8192) (j : Fin 512) : gatedRows m c (ix3 i n j)
    = Merge.normalized (fun j => m (c.tc.loc main_arg4) (ix3 i n j)) j * m (c.tc.loc main_arg8) (ix1 j) * m (c.tc.loc main_arg5) (ix3 i n j) := by
  have e : (⟨(Merge.head j).val * 64 + (⟨j.val % 64, by omega⟩ : Fin 64).val, by have := (Merge.head j).isLt; omega⟩ : Fin 512) = j :=
    Fin.ext (by show j.val / 64 * 64 + j.val % 64 = j.val; omega)
  have h := normalized_at m c i n (Merge.head j) ⟨j.val % 64, by omega⟩
  rw [e] at h
  rw [← h]
  unfold gatedRows
  pointwise []
  rfl

theorem mixed_at (i : Fin 2) (n : Fin 8192) (k : Fin 1024) : mixed m c (ix3 i n k)
    = Merge.merged (fun j => m (c.tc.loc main_arg2) (ix3 i n j)) (fun j => m (c.tc.loc main_arg3) (ix3 i n j))
        (fun j => m (c.tc.loc main_arg4) (ix3 i n j)) (fun j => m (c.tc.loc main_arg5) (ix3 i n j)) (fun j => m (c.tc.loc main_arg8) (ix1 j))
        (fun k => m (c.tc.loc main_arg6) (ix3 i n k)) (fun k => m (c.tc.loc main_arg7) (ix3 i n k))
        (fun j k => m (c.tc.loc main_arg9) (ix2 j k)) (fun j k => m (c.tc.loc main_arg10) (ix2 j k)) k := by
  unfold Merge.merged mixed
  pointwise []
  simp only [gatedRows_at]

theorem residual_at (i : Fin 2) (n : Fin 8192) (k : Fin 1024) : residual m c (ix3 i n k)
    = Merge.residual (fun k => m (c.tc.loc main_arg0) (ix3 i n k)) (fun k => m (c.tc.loc main_arg1) (ix2 i k)) (fun k => mixed m c (ix3 i n k))
        (fun l k => m (c.tc.loc main_arg11) (ix2 l k)) k := by
  unfold Merge.residual residual
  pointwise []

theorem result_at (i : Fin 2) (n : Fin 8192) (k : Fin 1024) : res_main_v52 m c (ix3 i n k) = entries m c i n k := by
  unfold entries Merge.entry Merge.rms
  have e : Merge.merged (fun j => m (c.tc.loc main_arg2) (ix3 i n j)) (fun j => m (c.tc.loc main_arg3) (ix3 i n j))
        (fun j => m (c.tc.loc main_arg4) (ix3 i n j)) (fun j => m (c.tc.loc main_arg5) (ix3 i n j)) (fun j => m (c.tc.loc main_arg8) (ix1 j))
        (fun k => m (c.tc.loc main_arg6) (ix3 i n k)) (fun k => m (c.tc.loc main_arg7) (ix3 i n k))
        (fun j k => m (c.tc.loc main_arg9) (ix2 j k)) (fun j k => m (c.tc.loc main_arg10) (ix2 j k)) = fun k => mixed m c (ix3 i n k) :=
    funext fun k => (mixed_at m c i n k).symm
  rw [e]
  simp only [← residual_at]
  show (mulf (mulf (residual m c) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (residual m c) (residual m c)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (m ((c.tc : Thread nD τ).loc main_arg12))))) (ix3 i n k) = _
  pointwise []

end Cert.Reference3Ideal.Results

end
-- ==== Proof.MergeFinite.lean ====
module

public import proofs.«01_k».proof.Proof.MergeArrays
public import proofs.«01_k».proof.Pre_ret_finite
public import Idealize.ShloMosaic.Lib.ReduceAll

@[expose] public section

set_option maxRecDepth 16384

noncomputable section

/-!
What the precondition says of the retention's rows: every entry is a number.
-/

namespace Cert.Kernel3Ideal.Finite

open Idealize.ShloMosaic

theorem infinity : Ideal.ofBits FTy.f32 0x7F800000#32 = ⊤ := by simp [Ideal.ofBits, Ideal.ieee]

/-- An extended real whose magnitude lies below infinity is a number. -/
theorem number (x : EReal) (h : FloatOps.absf (F := Ideal) (φ := .f32) x < Ideal.ofBits FTy.f32 0x7F800000#32) : ∃ r : ℝ, x = r := by
  rw [infinity] at h
  have h' : max x (-x) < ⊤ := h
  induction x with
  | bot => simp at h'
  | coe r => exact ⟨r, rfl⟩
  | top => simp at h'

/-- The predicate of every entry, read back. -/
theorem entries [Cert.Pre_ret_finite.Facts] (a0 a1 a2 a3 a4 a5 a6 a7 a8 a9 a10 a11 a12)
    (h : Cert.Pre_ret_finite.fn (F := Ideal) a0 a1 a2 a3 a4 a5 a6 a7 a8 a9 a10 a11 a12 = fun _ => 1#1) (i : Fin 2) (n : Fin 8192) (j : Fin 512) :
    ∃ r : ℝ, a4 (ix3 i n j) = (r : EReal) := by
  have hs : Subsingleton Cert.Pre_ret_finite.S_.Idx := ⟨fun a b => funext fun d => d.elim0⟩
  have e := Host.reduce_andi_all _ _ _ _ (fun d => d.elim0) (congrFun h (fun d => d.elim0)) (ix3 i n j)
  revert e
  pointwise []
  intro e
  refine number _ ?_
  by_contra hn
  rw [decide_eq_false hn] at e
  exact absurd e (by decide)

end Cert.Kernel3Ideal.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_ret_finite
public import proofs.«01_k».proof.Proof.Fold
public import proofs.«01_k».proof.Proof.Tail
public import proofs.«01_k».proof.Proof.ProjectionFrameBits
public import proofs.«01_k».proof.Proof.ProjectionReference
public import proofs.«01_k».proof.Proof.ProjectionTurned
public import proofs.«01_k».proof.Proof.ProjectionTail
public import Idealize.ShloMosaic.Lib.Claim
public import Idealize.ShloMosaic.Adequacy
public import Idealize.ShloMosaic.Init
public import proofs.«01_k».proof.Proof.MergeArrays
public import proofs.«01_k».proof.Proof.MergeReference
public import proofs.«01_k».proof.Proof.MergeFinite

@[expose] public section

set_option maxRecDepth 16384

noncomputable section

namespace Cert.Proof

open Idealize.ShloMosaic Idealize.ShloMosaic.TcCoe Idealize.SL.Sem

/-- The kernel's run, with both results at the recurrence. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_v63_0) = Cert.KernelIdeal.Arrays.rowsOut m c
        ∧ r.2.mem ((c.tc : Thread Cert.KernelIdeal.nD Cert.KernelIdeal.τ).loc Cert.KernelIdeal.main_v79)
          = Pipeline.afterTail₀ Cert.KernelIdeal.cfgs (Cert.KernelIdeal.Gen.dats m) 0 (Cert.KernelIdeal.Gen.V0 m)
            [Cert.KernelIdeal.Gen.hostOps1, Cert.KernelIdeal.Gen.hostOps1_1, Cert.KernelIdeal.Gen.hostOps1_2, Cert.KernelIdeal.Gen.hostOps1_3,
              Cert.KernelIdeal.Gen.hostOps1_4, Cert.KernelIdeal.Gen.hostOps1_5, Cert.KernelIdeal.Gen.hostOps1_6, Cert.KernelIdeal.Gen.hostOps1_7,
              Cert.KernelIdeal.Gen.hostOps1_8] c Cert.KernelIdeal.main_v79)) :=
  (θ_run _ _ _).mono (fun r h c => ⟨((h c).1 10).trans (Cert.KernelIdeal.Arrays.rows_array m c), (h c).2 _ (by decide)⟩)
    (Cert.KernelIdeal.Gen.run_main m g)

theorem algebraic : Cert.algebraic_KernelIdeal_ReferenceIdeal := by
  intro m g m' g' _ hag
  refine ⟨fun c => Cert.KernelIdeal.Arrays.rowsOut m c, fun c => Pipeline.afterTail₀ Cert.KernelIdeal.cfgs (Cert.KernelIdeal.Gen.dats m) 0 (Cert.KernelIdeal.Gen.V0 m)
            [Cert.KernelIdeal.Gen.hostOps1, Cert.KernelIdeal.Gen.hostOps1_1, Cert.KernelIdeal.Gen.hostOps1_2, Cert.KernelIdeal.Gen.hostOps1_3,
              Cert.KernelIdeal.Gen.hostOps1_4, Cert.KernelIdeal.Gen.hostOps1_5, Cert.KernelIdeal.Gen.hostOps1_6, Cert.KernelIdeal.Gen.hostOps1_7,
              Cert.KernelIdeal.Gen.hostOps1_8] c Cert.KernelIdeal.main_v79, ?_, ?_⟩
  · exact (θ_run _ _ _).mono (fun r h c => ⟨(h.1 c).1, (h.1 c).2, h.2 c⟩)
      (θ_run_and (kernel_run m g) (Cert.KernelIdeal.Gen.unchanged m g))
  · refine (θ_run _ _ _).mono (fun r h c => ⟨(h c).1.trans ?_, (h c).2.1.trans ?_, (h c).2.2⟩) (Cert.ReferenceIdeal.Value.run m' g')
    · funext x
      idx_vars x
      refine (Cert.ReferenceIdeal.Fold.rows_result m' c x0 x1 x2).trans ?_
      rw [(hag c).1, (hag c).2.1, (hag c).2.2]
      rfl
    · funext x
      idx_vars x
      refine (Cert.ReferenceIdeal.Fold.state_result m' c x0 x1 x2 x3).trans (Eq.trans ?_ (Cert.KernelIdeal.Tail.state_result m c x0 x1 x2 x3).symm)
      rw [(hag c).2.1, (hag c).2.2]
      rfl

/-- The reference has no semaphores. -/
theorem frame_reference : Cert.quiescent_ReferenceIdeal := fun m g _ =>
  (θ_run _ _ _).mono (fun r h => ⟨fun c => (h c).2.2, sem_eq_zero_of_no_sems (by decide) r.2⟩) (Cert.ReferenceIdeal.Value.run m g)

set_option maxHeartbeats 8000000 in
/-- The projection's run, with every array at its entries. -/
theorem projection_run (m : (ℓ : Loc Cert.Kernel2Ideal.nD Cert.Kernel2Ideal.τ Cert.Kernel2Ideal.sig) → Buf (Elt Ideal) ℓ)
    (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r =>
      (∀ c : Dev Cert.Kernel2Ideal.nD,
        r.2.mem ((c.tc : Thread Cert.Kernel2Ideal.nD Cert.Kernel2Ideal.τ).loc Cert.Kernel2Ideal.main_v63)
          = Pipeline.afterTail₀ Cert.Kernel2Ideal.cfgs (Cert.Kernel2Ideal.Call.dats m) 0 (Cert.Kernel2Ideal.Call.V0 m)
            [Cert.Kernel2Ideal.Gen.hostOps1] c Cert.Kernel2Ideal.main_v63
        ∧ r.2.mem ((c.tc : Thread Cert.Kernel2Ideal.nD Cert.Kernel2Ideal.τ).loc Cert.Kernel2Ideal.main_v65)
          = Pipeline.afterTail₀ Cert.Kernel2Ideal.cfgs (Cert.Kernel2Ideal.Call.dats m) 0 (Cert.Kernel2Ideal.Call.V0 m)
            [Cert.Kernel2Ideal.Gen.hostOps1] c Cert.Kernel2Ideal.main_v65
        ∧ r.2.mem ((c.tc : Thread Cert.Kernel2Ideal.nD Cert.Kernel2Ideal.τ).loc Cert.Kernel2Ideal.main_v61_3) = Cert.Kernel2Ideal.Arrays.lowKeys m c
        ∧ r.2.mem ((c.tc : Thread Cert.Kernel2Ideal.nD Cert.Kernel2Ideal.τ).loc Cert.Kernel2Ideal.main_v61_4) = Cert.Kernel2Ideal.Arrays.slabs m c
        ∧ r.2.mem ((c.tc : Thread Cert.Kernel2Ideal.nD Cert.Kernel2Ideal.τ).loc Cert.Kernel2Ideal.main_v61_0) = Cert.Kernel2Ideal.Arrays.queries m c
        ∧ r.2.mem ((c.tc : Thread Cert.Kernel2Ideal.nD Cert.Kernel2Ideal.τ).loc Cert.Kernel2Ideal.main_v61_5) = Cert.Kernel2Ideal.Arrays.gate m c
        ∧ r.2.mem ((c.tc : Thread Cert.Kernel2Ideal.nD Cert.Kernel2Ideal.τ).loc Cert.Kernel2Ideal.main_v61_10) = Cert.Kernel2Ideal.Arrays.turnedQueries m c
        ∧ r.2.mem ((c.tc : Thread Cert.Kernel2Ideal.nD Cert.Kernel2Ideal.τ).loc Cert.Kernel2Ideal.main_v61_11) = Cert.Kernel2Ideal.Arrays.turnedKeys m c
        ∧ r.2.mem ((c.tc : Thread Cert.Kernel2Ideal.nD Cert.Kernel2Ideal.τ).loc Cert.Kernel2Ideal.main_v61_12) = Cert.Kernel2Ideal.Arrays.turnedValues m c
        ∧ r.2.mem ((c.tc : Thread Cert.Kernel2Ideal.nD Cert.Kernel2Ideal.τ).loc Cert.Kernel2Ideal.main_v61_13) = Cert.Kernel2Ideal.Arrays.turnedGate m c
        ∧ r.2.mem ((c.tc : Thread Cert.Kernel2Ideal.nD Cert.Kernel2Ideal.τ).loc Cert.Kernel2Ideal.main_v61_14) = Cert.Kernel2Ideal.Arrays.mix m c
        ∧ r.2.mem ((c.tc : Thread Cert.Kernel2Ideal.nD Cert.Kernel2Ideal.τ).loc Cert.Kernel2Ideal.main_v61_15) = Cert.Kernel2Ideal.Arrays.turnedMix m c)) :=
  (θ_run _ _ _).mono (fun r h c => ⟨(h c).2 _ (by decide), (h c).2 _ (by decide),
      ((h c).1 12).trans (Cert.Kernel2Ideal.Arrays.lowKeys_array m c), ((h c).1 13).trans (Cert.Kernel2Ideal.Arrays.slabs_array m c),
      ((h c).1 9).trans (Cert.Kernel2Ideal.Arrays.queries_array m c), ((h c).1 14).trans (Cert.Kernel2Ideal.Arrays.gate_array m c),
      ((h c).1 19).trans (Cert.Kernel2Ideal.Arrays.turnedQueries_array m c), ((h c).1 20).trans (Cert.Kernel2Ideal.Arrays.turnedKeys_array m c),
      ((h c).1 21).trans (Cert.Kernel2Ideal.Arrays.turnedValues_array m c), ((h c).1 22).trans (Cert.Kernel2Ideal.Arrays.turnedGate_array m c),
      ((h c).1 23).trans (Cert.Kernel2Ideal.Arrays.mix_array m c), ((h c).1 24).trans (Cert.Kernel2Ideal.Arrays.turnedMix_array m c)⟩)
    (Cert.Kernel2Ideal.Call.run_main m g)

theorem algebraic_projection : Cert.algebraic_Kernel2Ideal_Reference2Ideal := by
  intro m g m' g' _ hag
  have he : ∀ c, Cert.Reference2Ideal.Results.entries m' c = Cert.Kernel2Ideal.Arrays.entries m c := fun c => by
    unfold Cert.Reference2Ideal.Results.entries Cert.Kernel2Ideal.Arrays.entries
    rw [(hag c).1, (hag c).2.1, (hag c).2.2.1, (hag c).2.2.2.1, (hag c).2.2.2.2]
  refine ⟨_, _, fun c => Cert.Kernel2Ideal.Arrays.lowKeys m c, fun c => Cert.Kernel2Ideal.Arrays.slabs m c,
    fun c => Cert.Kernel2Ideal.Arrays.queries m c, fun c => Cert.Kernel2Ideal.Arrays.gate m c,
    fun c => Cert.Kernel2Ideal.Arrays.turnedQueries m c, fun c => Cert.Kernel2Ideal.Arrays.turnedKeys m c,
    fun c => Cert.Kernel2Ideal.Arrays.turnedValues m c, fun c => Cert.Kernel2Ideal.Arrays.turnedGate m c,
    fun c => Cert.Kernel2Ideal.Arrays.mix m c, fun c => Cert.Kernel2Ideal.Arrays.turnedMix m c,
    (θ_run _ _ _).mono (fun r h c => ⟨(h.1 c).1, (h.1 c).2.1, (h.1 c).2.2.1, (h.1 c).2.2.2.1, (h.1 c).2.2.2.2.1, (h.1 c).2.2.2.2.2.1,
        (h.1 c).2.2.2.2.2.2.1, (h.1 c).2.2.2.2.2.2.2.1, (h.1 c).2.2.2.2.2.2.2.2.1, (h.1 c).2.2.2.2.2.2.2.2.2.1,
        (h.1 c).2.2.2.2.2.2.2.2.2.2.1, (h.1 c).2.2.2.2.2.2.2.2.2.2.2, h.2 c⟩)
      (θ_run_and (projection_run m g) (Cert.Kernel2Ideal.Call.unchanged m g)), ?_⟩
  refine (θ_run _ _ _).mono (fun r h c => ?_) (Cert.Reference2Ideal.Value.run m' g')
  obtain ⟨r0, r1, r2, r3, r4, r5, r6, r7, r8, r9, r10, r11, args⟩ := h c
  refine ⟨r0.trans ?_, r1.trans ?_, r2.trans ?_, r3.trans ?_, r4.trans ?_, r5.trans ?_, r6.trans ?_, r7.trans ?_, r8.trans ?_, r9.trans ?_,
    r10.trans ?_, r11.trans ?_, args⟩ <;> funext x <;> idx_vars x
  · exact (Cert.Reference2Ideal.Results.key_at m' c x0 x1 x2 x3).trans
      ((by rw [he c] : _ = _).trans (Cert.Kernel2Ideal.Tail.keys_result m c x0 x1 x2 x3).symm)
  · exact (Cert.Reference2Ideal.Results.value_at m' c x0 x1 x2 x3).trans
      ((by rw [he c] : _ = _).trans (Cert.Kernel2Ideal.Tail.values_result m c x0 x1 x2 x3).symm)
  · exact (Cert.Reference2Ideal.Results.low_key_at m' c x0 x1 x2).trans (by rw [he c]; rfl)
  · exact (Cert.Reference2Ideal.Results.slab_at m' c x0 x1 x2 x3).trans (by rw [he c]; rfl)
  · exact (Cert.Reference2Ideal.Results.query_at m' c x0 x1 x2).trans (by rw [he c]; rfl)
  · exact (Cert.Reference2Ideal.Results.gate_at m' c x0 x1 x2).trans (by rw [he c]; rfl)
  · exact (Cert.Reference2Ideal.Results.turned_query_at m' c x0 x1 x2).trans (by rw [he c]; rfl)
  · exact (Cert.Reference2Ideal.Results.turned_key_at m' c x0 x1 x2).trans (by rw [he c]; rfl)
  · exact (Cert.Reference2Ideal.Results.turned_value_at m' c x0 x1 x2).trans (by rw [he c]; rfl)
  · exact (Cert.Reference2Ideal.Results.turned_gate_at m' c x0 x1 x2).trans (by rw [he c]; rfl)
  · exact (Cert.Reference2Ideal.Results.mix_at m' c x0 x1 x2).trans (by rw [he c]; rfl)
  · exact (Cert.Reference2Ideal.Results.turned_mix_at m' c x0 x1 x2).trans (by rw [he c]; rfl)

/-- Nor has the reference projection. -/
theorem frame_reference_projection : Cert.quiescent_Reference2Ideal := fun m g _ =>
  (θ_run _ _ _).mono (fun r h => ⟨fun c => (h c).2.2.2.2.2.2.2.2.2.2.2.2, sem_eq_zero_of_no_sems (by decide) r.2⟩)
    (Cert.Reference2Ideal.Value.run m g)

/-- The merge's run, with its array at its entries, where the retention's rows are numbers. -/
theorem merge_run (m : (ℓ : Loc Cert.Kernel3Ideal.nD Cert.Kernel3Ideal.τ Cert.Kernel3Ideal.sig) → Buf (Elt Ideal) ℓ)
    (g : Dev Cert.Kernel3Ideal.nD → PrngReg) (hm : Cert.Pre_Kernel3Ideal_ret_finite m) :
    θ_run (Cert.Kernel3Ideal.defs (F := Ideal)) (onTc (τ := Cert.Kernel3Ideal.τ) (Cert.Kernel3Ideal.main (F := Ideal))) ⟨m, fun _ => 0, g⟩ (fun r =>
      ∀ c : Dev Cert.Kernel3Ideal.nD,
        r.2.mem ((c.tc : Thread Cert.Kernel3Ideal.nD Cert.Kernel3Ideal.τ).loc Cert.Kernel3Ideal.main_v17) = Cert.Kernel3Ideal.Arrays.result m c) :=
  (θ_run _ _ _).mono (fun r h c => (h c).1.trans (Cert.Kernel3Ideal.Arrays.result_array m c fun i n j =>
      Cert.Kernel3Ideal.Finite.entries _ _ _ _ _ _ _ _ _ _ _ _ _ (hm c) i n j))
    (Cert.Kernel3Ideal.Value.run_blocks m g)

theorem algebraic_merge : Cert.algebraic_Kernel3Ideal_Reference3Ideal_pre_ret_finite := by
  intro m g m' g' hm hag
  refine ⟨fun c => Cert.Kernel3Ideal.Arrays.result m c, ?_, ?_⟩
  · exact (θ_run _ _ _).mono (fun r h c => ⟨h.1 c, h.2 c⟩) (θ_run_and (merge_run m g hm) (Cert.Kernel3Ideal.Gen.unchanged m g))
  · refine (θ_run _ _ _).mono (fun r h c => ⟨(h c).1.trans ?_, (h c).2⟩) (Cert.Reference3Ideal.Value.run m' g')
    have he : Cert.Reference3Ideal.Results.entries m' c = Cert.Kernel3Ideal.Arrays.entries m c := by
      obtain ⟨e0, e1, e2, e3, e4, e5, e6, e7, e8, e9, e10, e11, e12⟩ := hag c
      unfold Cert.Reference3Ideal.Results.entries Cert.Kernel3Ideal.Arrays.entries
      rw [e0, e1, e2, e3, e4, e5, e6, e7, e8, e9, e10, e11, e12]
    funext x
    idx_vars x
    exact (Cert.Reference3Ideal.Results.result_at m' c x0 x1 x2).trans (by rw [he]; rfl)

/-- Nor has the reference merge. -/
theorem frame_reference_merge : Cert.quiescent_Reference3Ideal := fun m g _ =>
  (θ_run _ _ _).mono (fun r h => ⟨fun c => (h c).2, sem_eq_zero_of_no_sems (by decide) r.2⟩) (Cert.Reference3Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_ret_finite.Gen.facts,
  fun m g _ => Cert.Kernel.Gen.frame m g, fun m g _ => Cert.KernelIdeal.Gen.frame m g, frame_reference,
  fun m g _ => Cert.Kernel2.Call.frame m g, fun m g _ => Cert.Kernel2Ideal.Call.frame m g, frame_reference_projection,
  fun m g _ => Cert.Kernel3.Gen.frame m g, fun m g _ => Cert.Kernel3Ideal.Gen.frame m g, fun m g _ => Cert.Kernel3Ideal.Gen.frame m g,
  frame_reference_merge, fun m g _ => frame_reference_merge m g trivial,
  trivial, algebraic, trivial, algebraic_projection, trivial, algebraic_merge⟩

end Cert.Proof

end
